-- ==== Defs.lean ====
def Pre_Prep (m : (ℓ : Loc Cert.Prep.nD Cert.Prep.τ Cert.Prep.sig) → Buf (Elt Bits) ℓ) : Prop :=
  True

def Pre_PrepReference (m : (ℓ : Loc Cert.PrepReference.nD Cert.PrepReference.τ Cert.PrepReference.sig) → Buf (Elt Bits) ℓ) : Prop :=
  True

def Pre_DhTail (m : (ℓ : Loc Cert.DhTail.nD Cert.DhTail.τ Cert.DhTail.sig) → Buf (Elt Bits) ℓ) : Prop :=
  True

def Pre_DhTailIdeal (m : (ℓ : Loc Cert.DhTailIdeal.nD Cert.DhTailIdeal.τ Cert.DhTailIdeal.sig) → Buf (Elt Ideal) ℓ) : Prop :=
  True

def Pre_DhTailIdeal_dh_table_finite [hPre_dh_table_finite : Cert.Pre_dh_table_finite.Facts] (m : (ℓ : Loc Cert.DhTailIdeal.nD Cert.DhTailIdeal.τ Cert.DhTailIdeal.sig) → Buf (Elt Ideal) ℓ) : Prop :=
  ∀ c : Dev Cert.DhTailIdeal.nD,
    (Cert.Pre_dh_table_finite.fn (F := Ideal) (m ((c.tc : Thread Cert.DhTailIdeal.nD Cert.DhTailIdeal.τ).loc Cert.DhTailIdeal.main_arg0)) (m ((c.tc : Thread Cert.DhTailIdeal.nD Cert.DhTailIdeal.τ).loc Cert.DhTailIdeal.main_arg1))) = (fun _ => 1#1)

def Pre_DhReferenceIdeal (m : (ℓ : Loc Cert.DhReferenceIdeal.nD Cert.DhReferenceIdeal.τ Cert.DhReferenceIdeal.sig) → Buf (Elt Ideal) ℓ) : Prop :=
  True

def Pre_DhReferenceIdeal_dh_table_finite [hPre_dh_table_finite : Cert.Pre_dh_table_finite.Facts] (m : (ℓ : Loc Cert.DhReferenceIdeal.nD Cert.DhReferenceIdeal.τ Cert.DhReferenceIdeal.sig) → Buf (Elt Ideal) ℓ) : Prop :=
  ∀ c : Dev Cert.DhReferenceIdeal.nD,
    (Cert.Pre_dh_table_finite.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1))) = (fun _ => 1#1)

def Pre_AggTail (m : (ℓ : Loc Cert.AggTail.nD Cert.AggTail.τ Cert.AggTail.sig) → Buf (Elt Bits) ℓ) : Prop :=
  True

def Pre_AggTailIdeal (m : (ℓ : Loc Cert.AggTailIdeal.nD Cert.AggTailIdeal.τ Cert.AggTailIdeal.sig) → Buf (Elt Ideal) ℓ) : Prop :=
  True

def Pre_AggTailIdeal_agg_table_finite [hPre_agg_table_finite : Cert.Pre_agg_table_finite.Facts] (m : (ℓ : Loc Cert.AggTailIdeal.nD Cert.AggTailIdeal.τ Cert.AggTailIdeal.sig) → Buf (Elt Ideal) ℓ) : Prop :=
  ∀ c : Dev Cert.AggTailIdeal.nD,
    (Cert.Pre_agg_table_finite.fn (F := Ideal) (m ((c.tc : Thread Cert.AggTailIdeal.nD Cert.AggTailIdeal.τ).loc Cert.AggTailIdeal.main_arg0)) (m ((c.tc : Thread Cert.AggTailIdeal.nD Cert.AggTailIdeal.τ).loc Cert.AggTailIdeal.main_arg1)) (m ((c.tc : Thread Cert.AggTailIdeal.nD Cert.AggTailIdeal.τ).loc Cert.AggTailIdeal.main_arg2))) = (fun _ => 1#1)

def Pre_AggReferenceIdeal (m : (ℓ : Loc Cert.AggReferenceIdeal.nD Cert.AggReferenceIdeal.τ Cert.AggReferenceIdeal.sig) → Buf (Elt Ideal) ℓ) : Prop :=
  True

def Pre_AggReferenceIdeal_agg_table_finite [hPre_agg_table_finite : Cert.Pre_agg_table_finite.Facts] (m : (ℓ : Loc Cert.AggReferenceIdeal.nD Cert.AggReferenceIdeal.τ Cert.AggReferenceIdeal.sig) → Buf (Elt Ideal) ℓ) : Prop :=
  ∀ c : Dev Cert.AggReferenceIdeal.nD,
    (Cert.Pre_agg_table_finite.fn (F := Ideal) (m ((c.tc : Thread Cert.AggReferenceIdeal.nD Cert.AggReferenceIdeal.τ).loc Cert.AggReferenceIdeal.main_arg0)) (m ((c.tc : Thread Cert.AggReferenceIdeal.nD Cert.AggReferenceIdeal.τ).loc Cert.AggReferenceIdeal.main_arg1)) (m ((c.tc : Thread Cert.AggReferenceIdeal.nD Cert.AggReferenceIdeal.τ).loc Cert.AggReferenceIdeal.main_arg2))) = (fun _ => 1#1)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepReference [hPrepReference : Cert.PrepReference.Facts] : Prop :=
  ∀ (m : (ℓ : Loc Cert.PrepReference.nD Cert.PrepReference.τ Cert.PrepReference.sig) → Buf (Elt Bits) ℓ) (g : Dev Cert.PrepReference.nD → PrngReg), Pre_PrepReference m →
    θ_run (Cert.PrepReference.defs (F := Bits)) (onTc (τ := Cert.PrepReference.τ) (Cert.PrepReference.main (F := Bits))) ⟨m, fun _ => 0, g⟩ (fun r => (∀ c : Dev Cert.PrepReference.nD,
      r.2.mem ((c.tc : Thread Cert.PrepReference.nD Cert.PrepReference.τ).loc Cert.PrepReference.main_arg0) = m ((c.tc : Thread Cert.PrepReference.nD Cert.PrepReference.τ).loc Cert.PrepReference.main_arg0)
      ∧ r.2.mem ((c.tc : Thread Cert.PrepReference.nD Cert.PrepReference.τ).loc Cert.PrepReference.main_arg1) = m ((c.tc : Thread Cert.PrepReference.nD Cert.PrepReference.τ).loc Cert.PrepReference.main_arg1)
      ∧ r.2.mem ((c.tc : Thread Cert.PrepReference.nD Cert.PrepReference.τ).loc Cert.PrepReference.main_arg2) = m ((c.tc : Thread Cert.PrepReference.nD Cert.PrepReference.τ).loc Cert.PrepReference.main_arg2)
      ∧ r.2.mem ((c.tc : Thread Cert.PrepReference.nD Cert.PrepReference.τ).loc Cert.PrepReference.main_arg3) = m ((c.tc : Thread Cert.PrepReference.nD Cert.PrepReference.τ).loc Cert.PrepReference.main_arg3))
      ∧ r.2.sem = fun _ => 0)

def quiescent_DhTail [hDhTail : Cert.DhTail.Facts] : Prop :=
  ∀ (m : (ℓ : Loc Cert.DhTail.nD Cert.DhTail.τ Cert.DhTail.sig) → Buf (Elt Bits) ℓ) (g : Dev Cert.DhTail.nD → PrngReg), Pre_DhTail m →
    θ_run (Cert.DhTail.defs (F := Bits)) (onTc (τ := Cert.DhTail.τ) (Cert.DhTail.main (F := Bits))) ⟨m, fun _ => 0, g⟩ (fun r => (∀ c : Dev Cert.DhTail.nD,
      r.2.mem ((c.tc : Thread Cert.DhTail.nD Cert.DhTail.τ).loc Cert.DhTail.main_arg0) = m ((c.tc : Thread Cert.DhTail.nD Cert.DhTail.τ).loc Cert.DhTail.main_arg0)
      ∧ r.2.mem ((c.tc : Thread Cert.DhTail.nD Cert.DhTail.τ).loc Cert.DhTail.main_arg1) = m ((c.tc : Thread Cert.DhTail.nD Cert.DhTail.τ).loc Cert.DhTail.main_arg1))
      ∧ r.2.sem = fun _ => 0)

def quiescent_DhTailIdeal [hDhTailIdeal : Cert.DhTailIdeal.Facts] : Prop :=
  ∀ (m : (ℓ : Loc Cert.DhTailIdeal.nD Cert.DhTailIdeal.τ Cert.DhTailIdeal.sig) → Buf (Elt Ideal) ℓ) (g : Dev Cert.DhTailIdeal.nD → PrngReg), Pre_DhTailIdeal m →
    θ_run (Cert.DhTailIdeal.defs (F := Ideal)) (onTc (τ := Cert.DhTailIdeal.τ) (Cert.DhTailIdeal.main (F := Ideal))) ⟨m, fun _ => 0, g⟩ (fun r => (∀ c : Dev Cert.DhTailIdeal.nD,
      r.2.mem ((c.tc : Thread Cert.DhTailIdeal.nD Cert.DhTailIdeal.τ).loc Cert.DhTailIdeal.main_arg0) = m ((c.tc : Thread Cert.DhTailIdeal.nD Cert.DhTailIdeal.τ).loc Cert.DhTailIdeal.main_arg0)
      ∧ r.2.mem ((c.tc : Thread Cert.DhTailIdeal.nD Cert.DhTailIdeal.τ).loc Cert.DhTailIdeal.main_arg1) = m ((c.tc : Thread Cert.DhTailIdeal.nD Cert.DhTailIdeal.τ).loc Cert.DhTailIdeal.main_arg1))
      ∧ r.2.sem = fun _ => 0)

def quiescent_DhTailIdeal_pre_dh_table_finite [hDhTailIdeal : Cert.DhTailIdeal.Facts] [hPre_dh_table_finite : Cert.Pre_dh_table_finite.Facts] : Prop :=
  ∀ (m : (ℓ : Loc Cert.DhTailIdeal.nD Cert.DhTailIdeal.τ Cert.DhTailIdeal.sig) → Buf (Elt Ideal) ℓ) (g : Dev Cert.DhTailIdeal.nD → PrngReg), Pre_DhTailIdeal_dh_table_finite m →
    θ_run (Cert.DhTailIdeal.defs (F := Ideal)) (onTc (τ := Cert.DhTailIdeal.τ) (Cert.DhTailIdeal.main (F := Ideal))) ⟨m, fun _ => 0, g⟩ (fun r => (∀ c : Dev Cert.DhTailIdeal.nD,
      r.2.mem ((c.tc : Thread Cert.DhTailIdeal.nD Cert.DhTailIdeal.τ).loc Cert.DhTailIdeal.main_arg0) = m ((c.tc : Thread Cert.DhTailIdeal.nD Cert.DhTailIdeal.τ).loc Cert.DhTailIdeal.main_arg0)
      ∧ r.2.mem ((c.tc : Thread Cert.DhTailIdeal.nD Cert.DhTailIdeal.τ).loc Cert.DhTailIdeal.main_arg1) = m ((c.tc : Thread Cert.DhTailIdeal.nD Cert.DhTailIdeal.τ).loc Cert.DhTailIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_DhReferenceIdeal_pre_dh_table_finite [hDhReferenceIdeal : Cert.DhReferenceIdeal.Facts] [hPre_dh_table_finite : Cert.Pre_dh_table_finite.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal_dh_table_finite m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_AggTail [hAggTail : Cert.AggTail.Facts] : Prop :=
  ∀ (m : (ℓ : Loc Cert.AggTail.nD Cert.AggTail.τ Cert.AggTail.sig) → Buf (Elt Bits) ℓ) (g : Dev Cert.AggTail.nD → PrngReg), Pre_AggTail m →
    θ_run (Cert.AggTail.defs (F := Bits)) (onTc (τ := Cert.AggTail.τ) (Cert.AggTail.main (F := Bits))) ⟨m, fun _ => 0, g⟩ (fun r => (∀ c : Dev Cert.AggTail.nD,
      r.2.mem ((c.tc : Thread Cert.AggTail.nD Cert.AggTail.τ).loc Cert.AggTail.main_arg0) = m ((c.tc : Thread Cert.AggTail.nD Cert.AggTail.τ).loc Cert.AggTail.main_arg0)
      ∧ r.2.mem ((c.tc : Thread Cert.AggTail.nD Cert.AggTail.τ).loc Cert.AggTail.main_arg1) = m ((c.tc : Thread Cert.AggTail.nD Cert.AggTail.τ).loc Cert.AggTail.main_arg1)
      ∧ r.2.mem ((c.tc : Thread Cert.AggTail.nD Cert.AggTail.τ).loc Cert.AggTail.main_arg2) = m ((c.tc : Thread Cert.AggTail.nD Cert.AggTail.τ).loc Cert.AggTail.main_arg2))
      ∧ r.2.sem = fun _ => 0)

def quiescent_AggTailIdeal [hAggTailIdeal : Cert.AggTailIdeal.Facts] : Prop :=
  ∀ (m : (ℓ : Loc Cert.AggTailIdeal.nD Cert.AggTailIdeal.τ Cert.AggTailIdeal.sig) → Buf (Elt Ideal) ℓ) (g : Dev Cert.AggTailIdeal.nD → PrngReg), Pre_AggTailIdeal m →
    θ_run (Cert.AggTailIdeal.defs (F := Ideal)) (onTc (τ := Cert.AggTailIdeal.τ) (Cert.AggTailIdeal.main (F := Ideal))) ⟨m, fun _ => 0, g⟩ (fun r => (∀ c : Dev Cert.AggTailIdeal.nD,
      r.2.mem ((c.tc : Thread Cert.AggTailIdeal.nD Cert.AggTailIdeal.τ).loc Cert.AggTailIdeal.main_arg0) = m ((c.tc : Thread Cert.AggTailIdeal.nD Cert.AggTailIdeal.τ).loc Cert.AggTailIdeal.main_arg0)
      ∧ r.2.mem ((c.tc : Thread Cert.AggTailIdeal.nD Cert.AggTailIdeal.τ).loc Cert.AggTailIdeal.main_arg1) = m ((c.tc : Thread Cert.AggTailIdeal.nD Cert.AggTailIdeal.τ).loc Cert.AggTailIdeal.main_arg1)
      ∧ r.2.mem ((c.tc : Thread Cert.AggTailIdeal.nD Cert.AggTailIdeal.τ).loc Cert.AggTailIdeal.main_arg2) = m ((c.tc : Thread Cert.AggTailIdeal.nD Cert.AggTailIdeal.τ).loc Cert.AggTailIdeal.main_arg2))
      ∧ r.2.sem = fun _ => 0)

def quiescent_AggTailIdeal_pre_agg_table_finite [hAggTailIdeal : Cert.AggTailIdeal.Facts] [hPre_agg_table_finite : Cert.Pre_agg_table_finite.Facts] : Prop :=
  ∀ (m : (ℓ : Loc Cert.AggTailIdeal.nD Cert.AggTailIdeal.τ Cert.AggTailIdeal.sig) → Buf (Elt Ideal) ℓ) (g : Dev Cert.AggTailIdeal.nD → PrngReg), Pre_AggTailIdeal_agg_table_finite m →
    θ_run (Cert.AggTailIdeal.defs (F := Ideal)) (onTc (τ := Cert.AggTailIdeal.τ) (Cert.AggTailIdeal.main (F := Ideal))) ⟨m, fun _ => 0, g⟩ (fun r => (∀ c : Dev Cert.AggTailIdeal.nD,
      r.2.mem ((c.tc : Thread Cert.AggTailIdeal.nD Cert.AggTailIdeal.τ).loc Cert.AggTailIdeal.main_arg0) = m ((c.tc : Thread Cert.AggTailIdeal.nD Cert.AggTailIdeal.τ).loc Cert.AggTailIdeal.main_arg0)
      ∧ r.2.mem ((c.tc : Thread Cert.AggTailIdeal.nD Cert.AggTailIdeal.τ).loc Cert.AggTailIdeal.main_arg1) = m ((c.tc : Thread Cert.AggTailIdeal.nD Cert.AggTailIdeal.τ).loc Cert.AggTailIdeal.main_arg1)
      ∧ r.2.mem ((c.tc : Thread Cert.AggTailIdeal.nD Cert.AggTailIdeal.τ).loc Cert.AggTailIdeal.main_arg2) = m ((c.tc : Thread Cert.AggTailIdeal.nD Cert.AggTailIdeal.τ).loc Cert.AggTailIdeal.main_arg2))
      ∧ r.2.sem = fun _ => 0)

def quiescent_AggReferenceIdeal [hAggReferenceIdeal : Cert.AggReferenceIdeal.Facts] : Prop :=
  ∀ (m : (ℓ : Loc Cert.AggReferenceIdeal.nD Cert.AggReferenceIdeal.τ Cert.AggReferenceIdeal.sig) → Buf (Elt Ideal) ℓ) (g : Dev Cert.AggReferenceIdeal.nD → PrngReg), Pre_AggReferenceIdeal m →
    θ_run (Cert.AggReferenceIdeal.defs (F := Ideal)) (onTc (τ := Cert.AggReferenceIdeal.τ) (Cert.AggReferenceIdeal.main (F := Ideal))) ⟨m, fun _ => 0, g⟩ (fun r => (∀ c : Dev Cert.AggReferenceIdeal.nD,
      r.2.mem ((c.tc : Thread Cert.AggReferenceIdeal.nD Cert.AggReferenceIdeal.τ).loc Cert.AggReferenceIdeal.main_arg0) = m ((c.tc : Thread Cert.AggReferenceIdeal.nD Cert.AggReferenceIdeal.τ).loc Cert.AggReferenceIdeal.main_arg0)
      ∧ r.2.mem ((c.tc : Thread Cert.AggReferenceIdeal.nD Cert.AggReferenceIdeal.τ).loc Cert.AggReferenceIdeal.main_arg1) = m ((c.tc : Thread Cert.AggReferenceIdeal.nD Cert.AggReferenceIdeal.τ).loc Cert.AggReferenceIdeal.main_arg1)
      ∧ r.2.mem ((c.tc : Thread Cert.AggReferenceIdeal.nD Cert.AggReferenceIdeal.τ).loc Cert.AggReferenceIdeal.main_arg2) = m ((c.tc : Thread Cert.AggReferenceIdeal.nD Cert.AggReferenceIdeal.τ).loc Cert.AggReferenceIdeal.main_arg2))
      ∧ r.2.sem = fun _ => 0)

def quiescent_AggReferenceIdeal_pre_agg_table_finite [hAggReferenceIdeal : Cert.AggReferenceIdeal.Facts] [hPre_agg_table_finite : Cert.Pre_agg_table_finite.Facts] : Prop :=
  ∀ (m : (ℓ : Loc Cert.AggReferenceIdeal.nD Cert.AggReferenceIdeal.τ Cert.AggReferenceIdeal.sig) → Buf (Elt Ideal) ℓ) (g : Dev Cert.AggReferenceIdeal.nD → PrngReg), Pre_AggReferenceIdeal_agg_table_finite m →
    θ_run (Cert.AggReferenceIdeal.defs (F := Ideal)) (onTc (τ := Cert.AggReferenceIdeal.τ) (Cert.AggReferenceIdeal.main (F := Ideal))) ⟨m, fun _ => 0, g⟩ (fun r => (∀ c : Dev Cert.AggReferenceIdeal.nD,
      r.2.mem ((c.tc : Thread Cert.AggReferenceIdeal.nD Cert.AggReferenceIdeal.τ).loc Cert.AggReferenceIdeal.main_arg0) = m ((c.tc : Thread Cert.AggReferenceIdeal.nD Cert.AggReferenceIdeal.τ).loc Cert.AggReferenceIdeal.main_arg0)
      ∧ r.2.mem ((c.tc : Thread Cert.AggReferenceIdeal.nD Cert.AggReferenceIdeal.τ).loc Cert.AggReferenceIdeal.main_arg1) = m ((c.tc : Thread Cert.AggReferenceIdeal.nD Cert.AggReferenceIdeal.τ).loc Cert.AggReferenceIdeal.main_arg1)
      ∧ r.2.mem ((c.tc : Thread Cert.AggReferenceIdeal.nD Cert.AggReferenceIdeal.τ).loc Cert.AggReferenceIdeal.main_arg2) = m ((c.tc : Thread Cert.AggReferenceIdeal.nD Cert.AggReferenceIdeal.τ).loc Cert.AggReferenceIdeal.main_arg2))
      ∧ r.2.sem = fun _ => 0)

def bitexact_Prep_PrepReference [hPrep : Cert.Prep.Facts] [hPrepReference : Cert.PrepReference.Facts] : Prop :=
  ∀ (m : (ℓ : Loc Cert.Prep.nD Cert.Prep.τ Cert.Prep.sig) → Buf (Elt Bits) ℓ) (g : Dev Cert.Prep.nD → PrngReg)
    (m' : (ℓ : Loc Cert.PrepReference.nD Cert.PrepReference.τ Cert.PrepReference.sig) → Buf (Elt Bits) ℓ) (g' : Dev Cert.PrepReference.nD → PrngReg), Pre_Prep m →
    (∀ c : Dev Cert.Prep.nD,
      m' ((c.tc : Thread Cert.PrepReference.nD Cert.PrepReference.τ).loc Cert.PrepReference.main_arg0) = m ((c.tc : Thread Cert.Prep.nD Cert.Prep.τ).loc Cert.Prep.main_arg0)
      ∧ m' ((c.tc : Thread Cert.PrepReference.nD Cert.PrepReference.τ).loc Cert.PrepReference.main_arg1) = m ((c.tc : Thread Cert.Prep.nD Cert.Prep.τ).loc Cert.Prep.main_arg1)
      ∧ m' ((c.tc : Thread Cert.PrepReference.nD Cert.PrepReference.τ).loc Cert.PrepReference.main_arg2) = m ((c.tc : Thread Cert.Prep.nD Cert.Prep.τ).loc Cert.Prep.main_arg2)
      ∧ m' ((c.tc : Thread Cert.PrepReference.nD Cert.PrepReference.τ).loc Cert.PrepReference.main_arg3) = m ((c.tc : Thread Cert.Prep.nD Cert.Prep.τ).loc Cert.Prep.main_arg3)) →
    ∃ (v0 : (c : Dev Cert.Prep.nD) → Buf (Elt Bits) ((c.tc : Thread Cert.Prep.nD Cert.Prep.τ).loc Cert.Prep.main_v4_0)) (v1 : (c : Dev Cert.Prep.nD) → Buf (Elt Bits) ((c.tc : Thread Cert.Prep.nD Cert.Prep.τ).loc Cert.Prep.main_v4_1)),
      θ_run (Cert.Prep.defs (F := Bits)) (onTc (τ := Cert.Prep.τ) (Cert.Prep.main (F := Bits))) ⟨m, fun _ => 0, g⟩ (fun r => ∀ c : Dev Cert.Prep.nD,
          r.2.mem ((c.tc : Thread Cert.Prep.nD Cert.Prep.τ).loc Cert.Prep.main_v4_0) = v0 c
          ∧ r.2.mem ((c.tc : Thread Cert.Prep.nD Cert.Prep.τ).loc Cert.Prep.main_v4_1) = v1 c
          ∧ r.2.mem ((c.tc : Thread Cert.Prep.nD Cert.Prep.τ).loc Cert.Prep.main_arg0) = m ((c.tc : Thread Cert.Prep.nD Cert.Prep.τ).loc Cert.Prep.main_arg0)
          ∧ r.2.mem ((c.tc : Thread Cert.Prep.nD Cert.Prep.τ).loc Cert.Prep.main_arg1) = m ((c.tc : Thread Cert.Prep.nD Cert.Prep.τ).loc Cert.Prep.main_arg1)
          ∧ r.2.mem ((c.tc : Thread Cert.Prep.nD Cert.Prep.τ).loc Cert.Prep.main_arg2) = m ((c.tc : Thread Cert.Prep.nD Cert.Prep.τ).loc Cert.Prep.main_arg2)
          ∧ r.2.mem ((c.tc : Thread Cert.Prep.nD Cert.Prep.τ).loc Cert.Prep.main_arg3) = m ((c.tc : Thread Cert.Prep.nD Cert.Prep.τ).loc Cert.Prep.main_arg3))
      ∧ θ_run (Cert.PrepReference.defs (F := Bits)) (onTc (τ := Cert.PrepReference.τ) (Cert.PrepReference.main (F := Bits))) ⟨m', fun _ => 0, g'⟩ (fun r => ∀ c : Dev Cert.PrepReference.nD,
          r.2.mem ((c.tc : Thread Cert.PrepReference.nD Cert.PrepReference.τ).loc Cert.PrepReference.main_v34) = v0 c
          ∧ r.2.mem ((c.tc : Thread Cert.PrepReference.nD Cert.PrepReference.τ).loc Cert.PrepReference.main_v37) = v1 c
          ∧ r.2.mem ((c.tc : Thread Cert.PrepReference.nD Cert.PrepReference.τ).loc Cert.PrepReference.main_arg0) = m' ((c.tc : Thread Cert.PrepReference.nD Cert.PrepReference.τ).loc Cert.PrepReference.main_arg0)
          ∧ r.2.mem ((c.tc : Thread Cert.PrepReference.nD Cert.PrepReference.τ).loc Cert.PrepReference.main_arg1) = m' ((c.tc : Thread Cert.PrepReference.nD Cert.PrepReference.τ).loc Cert.PrepReference.main_arg1)
          ∧ r.2.mem ((c.tc : Thread Cert.PrepReference.nD Cert.PrepReference.τ).loc Cert.PrepReference.main_arg2) = m' ((c.tc : Thread Cert.PrepReference.nD Cert.PrepReference.τ).loc Cert.PrepReference.main_arg2)
          ∧ r.2.mem ((c.tc : Thread Cert.PrepReference.nD Cert.PrepReference.τ).loc Cert.PrepReference.main_arg3) = m' ((c.tc : Thread Cert.PrepReference.nD Cert.PrepReference.τ).loc Cert.PrepReference.main_arg3))

def preserves_DhTail_DhTailIdeal : Prop :=
  True

def algebraic_DhTailIdeal_DhReferenceIdeal_pre_dh_table_finite [hDhTailIdeal : Cert.DhTailIdeal.Facts] [hDhReferenceIdeal : Cert.DhReferenceIdeal.Facts] [hPre_dh_table_finite : Cert.Pre_dh_table_finite.Facts] : Prop :=
  ∀ (m : (ℓ : Loc Cert.DhTailIdeal.nD Cert.DhTailIdeal.τ Cert.DhTailIdeal.sig) → Buf (Elt Ideal) ℓ) (g : Dev Cert.DhTailIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhTailIdeal_dh_table_finite m →
    (∀ c : Dev Cert.DhTailIdeal.nD,
      m' ((c.tc : Thread Cert.DhReferenceIdeal.nD Cert.DhReferenceIdeal.τ).loc Cert.DhReferenceIdeal.main_arg0) = m ((c.tc : Thread Cert.DhTailIdeal.nD Cert.DhTailIdeal.τ).loc Cert.DhTailIdeal.main_arg0)
      ∧ m' ((c.tc : Thread Cert.DhReferenceIdeal.nD Cert.DhReferenceIdeal.τ).loc Cert.DhReferenceIdeal.main_arg1) = m ((c.tc : Thread Cert.DhTailIdeal.nD Cert.DhTailIdeal.τ).loc Cert.DhTailIdeal.main_arg1)) →
    ∃ (v0 : (c : Dev Cert.DhTailIdeal.nD) → Buf (Elt Ideal) ((c.tc : Thread Cert.DhTailIdeal.nD Cert.DhTailIdeal.τ).loc Cert.DhTailIdeal.main_v3)),
      θ_run (Cert.DhTailIdeal.defs (F := Ideal)) (onTc (τ := Cert.DhTailIdeal.τ) (Cert.DhTailIdeal.main (F := Ideal))) ⟨m, fun _ => 0, g⟩ (fun r => ∀ c : Dev Cert.DhTailIdeal.nD,
          r.2.mem ((c.tc : Thread Cert.DhTailIdeal.nD Cert.DhTailIdeal.τ).loc Cert.DhTailIdeal.main_v3) = v0 c
          ∧ r.2.mem ((c.tc : Thread Cert.DhTailIdeal.nD Cert.DhTailIdeal.τ).loc Cert.DhTailIdeal.main_arg0) = m ((c.tc : Thread Cert.DhTailIdeal.nD Cert.DhTailIdeal.τ).loc Cert.DhTailIdeal.main_arg0)
          ∧ r.2.mem ((c.tc : Thread Cert.DhTailIdeal.nD Cert.DhTailIdeal.τ).loc Cert.DhTailIdeal.main_arg1) = m ((c.tc : Thread Cert.DhTailIdeal.nD Cert.DhTailIdeal.τ).loc Cert.DhTailIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v6) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_AggTail_AggTailIdeal : Prop :=
  True

def algebraic_AggTailIdeal_AggReferenceIdeal_pre_agg_table_finite [hAggTailIdeal : Cert.AggTailIdeal.Facts] [hAggReferenceIdeal : Cert.AggReferenceIdeal.Facts] [hPre_agg_table_finite : Cert.Pre_agg_table_finite.Facts] : Prop :=
  ∀ (m : (ℓ : Loc Cert.AggTailIdeal.nD Cert.AggTailIdeal.τ Cert.AggTailIdeal.sig) → Buf (Elt Ideal) ℓ) (g : Dev Cert.AggTailIdeal.nD → PrngReg)
    (m' : (ℓ : Loc Cert.AggReferenceIdeal.nD Cert.AggReferenceIdeal.τ Cert.AggReferenceIdeal.sig) → Buf (Elt Ideal) ℓ) (g' : Dev Cert.AggReferenceIdeal.nD → PrngReg), Pre_AggTailIdeal_agg_table_finite m →
    (∀ c : Dev Cert.AggTailIdeal.nD,
      m' ((c.tc : Thread Cert.AggReferenceIdeal.nD Cert.AggReferenceIdeal.τ).loc Cert.AggReferenceIdeal.main_arg0) = m ((c.tc : Thread Cert.AggTailIdeal.nD Cert.AggTailIdeal.τ).loc Cert.AggTailIdeal.main_arg0)
      ∧ m' ((c.tc : Thread Cert.AggReferenceIdeal.nD Cert.AggReferenceIdeal.τ).loc Cert.AggReferenceIdeal.main_arg1) = m ((c.tc : Thread Cert.AggTailIdeal.nD Cert.AggTailIdeal.τ).loc Cert.AggTailIdeal.main_arg1)
      ∧ m' ((c.tc : Thread Cert.AggReferenceIdeal.nD Cert.AggReferenceIdeal.τ).loc Cert.AggReferenceIdeal.main_arg2) = m ((c.tc : Thread Cert.AggTailIdeal.nD Cert.AggTailIdeal.τ).loc Cert.AggTailIdeal.main_arg2)) →
    ∃ (v0 : (c : Dev Cert.AggTailIdeal.nD) → Buf (Elt Ideal) ((c.tc : Thread Cert.AggTailIdeal.nD Cert.AggTailIdeal.τ).loc Cert.AggTailIdeal.main_v6_0)) (v1 : (c : Dev Cert.AggTailIdeal.nD) → Buf (Elt Ideal) ((c.tc : Thread Cert.AggTailIdeal.nD Cert.AggTailIdeal.τ).loc Cert.AggTailIdeal.main_v6_1)),
      θ_run (Cert.AggTailIdeal.defs (F := Ideal)) (onTc (τ := Cert.AggTailIdeal.τ) (Cert.AggTailIdeal.main (F := Ideal))) ⟨m, fun _ => 0, g⟩ (fun r => ∀ c : Dev Cert.AggTailIdeal.nD,
          r.2.mem ((c.tc : Thread Cert.AggTailIdeal.nD Cert.AggTailIdeal.τ).loc Cert.AggTailIdeal.main_v6_0) = v0 c
          ∧ r.2.mem ((c.tc : Thread Cert.AggTailIdeal.nD Cert.AggTailIdeal.τ).loc Cert.AggTailIdeal.main_v6_1) = v1 c
          ∧ r.2.mem ((c.tc : Thread Cert.AggTailIdeal.nD Cert.AggTailIdeal.τ).loc Cert.AggTailIdeal.main_arg0) = m ((c.tc : Thread Cert.AggTailIdeal.nD Cert.AggTailIdeal.τ).loc Cert.AggTailIdeal.main_arg0)
          ∧ r.2.mem ((c.tc : Thread Cert.AggTailIdeal.nD Cert.AggTailIdeal.τ).loc Cert.AggTailIdeal.main_arg1) = m ((c.tc : Thread Cert.AggTailIdeal.nD Cert.AggTailIdeal.τ).loc Cert.AggTailIdeal.main_arg1)
          ∧ r.2.mem ((c.tc : Thread Cert.AggTailIdeal.nD Cert.AggTailIdeal.τ).loc Cert.AggTailIdeal.main_arg2) = m ((c.tc : Thread Cert.AggTailIdeal.nD Cert.AggTailIdeal.τ).loc Cert.AggTailIdeal.main_arg2))
      ∧ θ_run (Cert.AggReferenceIdeal.defs (F := Ideal)) (onTc (τ := Cert.AggReferenceIdeal.τ) (Cert.AggReferenceIdeal.main (F := Ideal))) ⟨m', fun _ => 0, g'⟩ (fun r => ∀ c : Dev Cert.AggReferenceIdeal.nD,
          r.2.mem ((c.tc : Thread Cert.AggReferenceIdeal.nD Cert.AggReferenceIdeal.τ).loc Cert.AggReferenceIdeal.main_v11) = v0 c
          ∧ r.2.mem ((c.tc : Thread Cert.AggReferenceIdeal.nD Cert.AggReferenceIdeal.τ).loc Cert.AggReferenceIdeal.main_v12) = v1 c
          ∧ r.2.mem ((c.tc : Thread Cert.AggReferenceIdeal.nD Cert.AggReferenceIdeal.τ).loc Cert.AggReferenceIdeal.main_arg0) = m' ((c.tc : Thread Cert.AggReferenceIdeal.nD Cert.AggReferenceIdeal.τ).loc Cert.AggReferenceIdeal.main_arg0)
          ∧ r.2.mem ((c.tc : Thread Cert.AggReferenceIdeal.nD Cert.AggReferenceIdeal.τ).loc Cert.AggReferenceIdeal.main_arg1) = m' ((c.tc : Thread Cert.AggReferenceIdeal.nD Cert.AggReferenceIdeal.τ).loc Cert.AggReferenceIdeal.main_arg1)
          ∧ r.2.mem ((c.tc : Thread Cert.AggReferenceIdeal.nD Cert.AggReferenceIdeal.τ).loc Cert.AggReferenceIdeal.main_arg2) = m' ((c.tc : Thread Cert.AggReferenceIdeal.nD Cert.AggReferenceIdeal.τ).loc Cert.AggReferenceIdeal.main_arg2))

def Claim : Prop :=
  ∃ (hPrep : Cert.Prep.Facts) (hPrepReference : Cert.PrepReference.Facts) (hDhTail : Cert.DhTail.Facts) (hDhTailIdeal : Cert.DhTailIdeal.Facts) (hDhReferenceIdeal : Cert.DhReferenceIdeal.Facts) (hAggTail : Cert.AggTail.Facts) (hAggTailIdeal : Cert.AggTailIdeal.Facts) (hAggReferenceIdeal : Cert.AggReferenceIdeal.Facts) (hPre_dh_table_finite : Cert.Pre_dh_table_finite.Facts) (hPre_agg_table_finite : Cert.Pre_agg_table_finite.Facts),
    quiescent_Prep (hPrep := hPrep)
    ∧ quiescent_PrepReference (hPrepReference := hPrepReference)
    ∧ quiescent_DhTail (hDhTail := hDhTail)
    ∧ quiescent_DhTailIdeal (hDhTailIdeal := hDhTailIdeal)
    ∧ quiescent_DhTailIdeal_pre_dh_table_finite (hDhTailIdeal := hDhTailIdeal) (hPre_dh_table_finite := hPre_dh_table_finite)
    ∧ quiescent_DhReferenceIdeal (hDhReferenceIdeal := hDhReferenceIdeal)
    ∧ quiescent_DhReferenceIdeal_pre_dh_table_finite (hDhReferenceIdeal := hDhReferenceIdeal) (hPre_dh_table_finite := hPre_dh_table_finite)
    ∧ quiescent_AggTail (hAggTail := hAggTail)
    ∧ quiescent_AggTailIdeal (hAggTailIdeal := hAggTailIdeal)
    ∧ quiescent_AggTailIdeal_pre_agg_table_finite (hAggTailIdeal := hAggTailIdeal) (hPre_agg_table_finite := hPre_agg_table_finite)
    ∧ quiescent_AggReferenceIdeal (hAggReferenceIdeal := hAggReferenceIdeal)
    ∧ quiescent_AggReferenceIdeal_pre_agg_table_finite (hAggReferenceIdeal := hAggReferenceIdeal) (hPre_agg_table_finite := hPre_agg_table_finite)
    ∧ bitexact_Prep_PrepReference (hPrep := hPrep) (hPrepReference := hPrepReference)
    ∧ preserves_DhTail_DhTailIdeal
    ∧ algebraic_DhTailIdeal_DhReferenceIdeal_pre_dh_table_finite (hDhTailIdeal := hDhTailIdeal) (hDhReferenceIdeal := hDhReferenceIdeal) (hPre_dh_table_finite := hPre_dh_table_finite)
    ∧ preserves_AggTail_AggTailIdeal
    ∧ algebraic_AggTailIdeal_AggReferenceIdeal_pre_agg_table_finite (hAggTailIdeal := hAggTailIdeal) (hAggReferenceIdeal := hAggReferenceIdeal) (hPre_agg_table_finite := hPre_agg_table_finite)
-- ==== Pre_agg_table_finite.lean ====
abbrev S3145728 : Shape := ⟨1, ![3145728]⟩
abbrev S96x12 : Shape := ⟨2, ![96, 12]⟩
abbrev S196608x47 : Shape := ⟨2, ![196608, 47]⟩
abbrev S_ : Shape := ⟨0, ![]⟩

class Facts : Prop where
  bcast_S_S3145728 : S_.BroadcastsInDim S3145728 (![] : Fin 0 → Fin S3145728.rank)

variable [Facts]

def fn {F : FTy → Type} [FloatOps F] (main_arg0 : FVec F S3145728 .f32) (main_arg1 : IVec S96x12 8) (main_arg2 : FVec F S196608x47 .bf16) : IVec S3145728 1 :=
  let main_v0 : FVec F S3145728 .f32 := Host.absf main_arg0
  let main_cst : FVec F S_ .f32 := constant S_ .f32 0x7F800000#32
  let main_v1 : FVec F S3145728 .f32 := broadcastInDim S3145728 ![] bcast_S_S3145728 main_cst
  let main_v2 : IVec S3145728 1 := cmpf .olt main_v0 main_v1
  main_v2
-- ==== Pre_dh_table_finite.lean ====
abbrev S9437184 : Shape := ⟨1, ![9437184]⟩
abbrev S96x47 : Shape := ⟨2, ![96, 47]⟩
abbrev S_ : Shape := ⟨0, ![]⟩

class Facts : Prop where
  bcast_S_S9437184 : S_.BroadcastsInDim S9437184 (![] : Fin 0 → Fin S9437184.rank)

variable [Facts]

def fn {F : FTy → Type} [FloatOps F] (main_arg0 : FVec F S9437184 .f32) (main_arg1 : FVec F S96x47 .bf16) : IVec S9437184 1 :=
  let main_v0 : FVec F S9437184 .f32 := Host.absf main_arg0
  let main_cst : FVec F S_ .f32 := constant S_ .f32 0x7F800000#32
  let main_v1 : FVec F S9437184 .f32 := broadcastInDim S9437184 ![] bcast_S_S9437184 main_cst
  let main_v2 : IVec S9437184 1 := cmpf .olt main_v0 main_v1
  main_v2
-- ==== Prep.lean ====
abbrev S196608x3 : Shape := ⟨2, ![196608, 3]⟩
abbrev S196608 : Shape := ⟨1, ![196608]⟩
abbrev S196608x47 : Shape := ⟨2, ![196608, 47]⟩
abbrev S3x196608 : Shape := ⟨2, ![3, 196608]⟩
abbrev S47x196608 : Shape := ⟨2, ![47, 196608]⟩
abbrev S1x196608 : Shape := ⟨2, ![1, 196608]⟩
abbrev S24576x128 : Shape := ⟨2, ![24576, 128]⟩
abbrev S49152x128 : Shape := ⟨2, ![49152, 128]⟩
abbrev S3x4096 : Shape := ⟨2, ![3, 4096]⟩
abbrev S1x4096 : Shape := ⟨2, ![1, 4096]⟩
abbrev S47x4096 : Shape := ⟨2, ![47, 4096]⟩
abbrev S512x128 : Shape := ⟨2, ![512, 128]⟩
abbrev S1024x128 : Shape := ⟨2, ![1024, 128]⟩
abbrev S12x4096 : Shape := ⟨2, ![12, 4096]⟩
abbrev S4x4096 : Shape := ⟨2, ![4, 4096]⟩
abbrev S16x4096 : Shape := ⟨2, ![16, 4096]⟩
abbrev S48x4096 : Shape := ⟨2, ![48, 4096]⟩
abbrev S32x4096 : Shape := ⟨2, ![32, 4096]⟩
abbrev S16x1024 : Shape := ⟨2, ![16, 1024]⟩
abbrev S16x128 : Shape := ⟨2, ![16, 128]⟩
abbrev S128x128 : Shape := ⟨2, ![128, 128]⟩
abbrev S32x1024 : Shape := ⟨2, ![32, 1024]⟩
abbrev S32x256 : Shape := ⟨2, ![32, 256]⟩
abbrev S128x256 : Shape := ⟨2, ![128, 256]⟩
abbrev S256x128 : Shape := ⟨2, ![256, 128]⟩

abbrev nBuf : Space → Nat
  | .hbm => 10
  | .vmem => 12
  | .smem => 0
  | _ => 0

abbrev bufTy : (tb : Table) → Fin (tcTables nBuf tb) → BufTy
  | .hbm, ⟨0, _⟩ => ⟨S196608x3, .i8⟩
  | .hbm, ⟨1, _⟩ => ⟨S196608, .f32⟩
  | .hbm, ⟨2, _⟩ => ⟨S196608, .f32⟩
  | .hbm, ⟨3, _⟩ => ⟨S196608x47, .bf16⟩
  | .hbm, ⟨4, _⟩ => ⟨S3x196608, .i8⟩
  | .hbm, ⟨5, _⟩ => ⟨S47x196608, .bf16⟩
  | .hbm, ⟨6, _⟩ => ⟨S1x196608, .f32⟩
  | .hbm, ⟨7, _⟩ => ⟨S1x196608, .f32⟩
  | .hbm, ⟨8, _⟩ => ⟨S24576x128, .f32⟩
  | .hbm, ⟨9, _⟩ => ⟨S49152x128, .i32⟩
  | .local _ .vmem, ⟨0, _⟩ => ⟨S3x4096, .i8⟩
  | .local _ .vmem, ⟨1, _⟩ => ⟨S3x4096, .i8⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S47x4096, .bf16⟩
  | .local _ .vmem, ⟨7, _⟩ => ⟨S47x4096, .bf16⟩
  | .local _ .vmem, ⟨8, _⟩ => ⟨S512x128, .f32⟩
  | .local _ .vmem, ⟨9, _⟩ => ⟨S512x128, .f32⟩
  | .local _ .vmem, ⟨10, _⟩ => ⟨S1024x128, .i32⟩
  | .local _ .vmem, ⟨11, _⟩ => ⟨S1024x128, .i32⟩
  | _, _ => ⟨S196608x3, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S47x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepReference.lean ====
abbrev S196608x3 : Shape := ⟨2, ![196608, 3]⟩
abbrev S196608 : Shape := ⟨1, ![196608]⟩
abbrev S196608x47 : Shape := ⟨2, ![196608, 47]⟩
abbrev S4 : Shape := ⟨1, ![4]⟩
abbrev S_ : Shape := ⟨0, ![]⟩
abbrev S1x4 : Shape := ⟨2, ![1, 4]⟩
abbrev S3x4 : Shape := ⟨2, ![3, 4]⟩
abbrev S12 : Shape := ⟨1, ![12]⟩
abbrev S196608x3x4 : Shape := ⟨3, ![196608, 3, 4]⟩
abbrev S196608x12 : Shape := ⟨2, ![196608, 12]⟩
abbrev S1x12 : Shape := ⟨2, ![1, 12]⟩
abbrev S196608x1 : Shape := ⟨2, ![196608, 1]⟩
abbrev S196608x16 : Shape := ⟨2, ![196608, 16]⟩
abbrev S196608x48 : Shape := ⟨2, ![196608, 48]⟩
abbrev S196608x32 : Shape := ⟨2, ![196608, 32]⟩
abbrev S192x8x128x16 : Shape := ⟨4, ![192, 8, 128, 16]⟩
abbrev S192x128x8x16 : Shape := ⟨4, ![192, 128, 8, 16]⟩
abbrev S24576x128 : Shape := ⟨2, ![24576, 128]⟩
abbrev S192x4x256x32 : Shape := ⟨4, ![192, 4, 256, 32]⟩
abbrev S192x256x4x32 : Shape := ⟨4, ![192, 256, 4, 32]⟩
abbrev S49152x128 : Shape := ⟨2, ![49152, 128]⟩

abbrev nBuf : Space → Nat
  | .hbm => 49
  | .vmem => 0
  | .smem => 0
  | _ => 0

abbrev bufTy : (tb : Table) → Fin (tcTables nBuf tb) → BufTy
  | .hbm, ⟨0, _⟩ => ⟨S196608x3, .i8⟩
  | .hbm, ⟨1, _⟩ => ⟨S196608, .f32⟩
  | .hbm, ⟨2, _⟩ => ⟨S196608, .f32⟩
  | .hbm, ⟨3, _⟩ => ⟨S196608x47, .bf16⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S1x4, .i32⟩
  | .hbm, ⟨9, _⟩ => ⟨S3x4, .i32⟩
  | .hbm, ⟨10, _⟩ => ⟨S12, .i32⟩
  | .hbm, ⟨11, _⟩ => ⟨S196608x3, .i32⟩
  | .hbm, ⟨12, _⟩ => ⟨S196608x3x4, .i32⟩
  | .hbm, ⟨13, _⟩ => ⟨S196608x12, .i32⟩
  | .hbm, ⟨14, _⟩ => ⟨S1x12, .i32⟩
  | .hbm, ⟨15, _⟩ => ⟨S196608x12, .i32⟩
  | .hbm, ⟨16, _⟩ => ⟨S196608x12, .i32⟩
  | .hbm, ⟨17, _⟩ => ⟨S_, .i32⟩
  | .hbm, ⟨18, _⟩ => ⟨S196608x12, .i32⟩
  | .hbm, ⟨19, _⟩ => ⟨S196608x12, .i32⟩
  | .hbm, ⟨20, _⟩ => ⟨S196608x12, .f32⟩
  | .hbm, ⟨21, _⟩ => ⟨S196608x1, .f32⟩
  | .hbm, ⟨22, _⟩ => ⟨S196608x12, .f32⟩
  | .hbm, ⟨23, _⟩ => ⟨S196608x12, .f32⟩
  | .hbm, ⟨24, _⟩ => ⟨S196608x1, .f32⟩
  | .hbm, ⟨25, _⟩ => ⟨S196608x12, .f32⟩
  | .hbm, ⟨26, _⟩ => ⟨S196608x12, .f32⟩
  | .hbm, ⟨27, _⟩ => ⟨S_, .f32⟩
  | .hbm, ⟨28, _⟩ => ⟨S_, .f32⟩
  | .hbm, ⟨29, _⟩ => ⟨S196608x16, .f32⟩
  | .hbm, ⟨30, _⟩ => ⟨S196608x47, .f32⟩
  | .hbm, ⟨31, _⟩ => ⟨S_, .f32⟩
  | .hbm, ⟨32, _⟩ => ⟨S_, .f32⟩
  | .hbm, ⟨33, _⟩ => ⟨S196608x48, .f32⟩
  | .hbm, ⟨34, _⟩ => ⟨S196608x48, .i32⟩
  | .hbm, ⟨35, _⟩ => ⟨S196608x16, .i32⟩
  | .hbm, ⟨36, _⟩ => ⟨S_, .i32⟩
  | .hbm, ⟨37, _⟩ => ⟨S196608x16, .i32⟩
  | .hbm, ⟨38, _⟩ => ⟨S196608x16, .i32⟩
  | .hbm, ⟨39, _⟩ => ⟨S196608x16, .i32⟩
  | .hbm, ⟨40, _⟩ => ⟨S196608x16, .i32⟩
  | .hbm, ⟨41, _⟩ => ⟨S196608x16, .i32⟩
  | .hbm, ⟨42, _⟩ => ⟨S196608x32, .i32⟩
  | .hbm, ⟨43, _⟩ => ⟨S192x8x128x16, .f32⟩
  | .hbm, ⟨44, _⟩ => ⟨S192x128x8x16, .f32⟩
  | .hbm, ⟨45, _⟩ => ⟨S24576x128, .f32⟩
  | .hbm, ⟨46, _⟩ => ⟨S192x4x256x32, .i32⟩
  | .hbm, ⟨47, _⟩ => ⟨S192x256x4x32, .i32⟩
  | .hbm, ⟨48, _⟩ => ⟨S49152x128, .i32⟩
  | _, _ => ⟨S196608x3, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [BitOps F]
-- ==== DhTail.lean ====
abbrev S9437184 : Shape := ⟨1, ![9437184]⟩
abbrev S96x47 : Shape := ⟨2, ![96, 47]⟩
abbrev S_ : Shape := ⟨0, ![]⟩
abbrev S96x48 : Shape := ⟨2, ![96, 48]⟩
abbrev S96x144 : Shape := ⟨2, ![96, 144]⟩
abbrev S3x24576x128 : Shape := ⟨3, ![3, 24576, 128]⟩
abbrev S96x196608 : Shape := ⟨2, ![96, 196608]⟩
abbrev S3x512x128 : Shape := ⟨3, ![3, 512, 128]⟩
abbrev S96x4096 : Shape := ⟨2, ![96, 4096]⟩
abbrev S1x128x128 : Shape := ⟨3, ![1, 128, 128]⟩
abbrev S128x128 : Shape := ⟨2, ![128, 128]⟩
abbrev S16x128 : Shape := ⟨2, ![16, 128]⟩
abbrev S16x1024 : Shape := ⟨2, ![16, 1024]⟩
abbrev S48x1024 : Shape := ⟨2, ![48, 1024]⟩
abbrev S144x1024 : Shape := ⟨2, ![144, 1024]⟩
abbrev S96x1024 : Shape := ⟨2, ![96, 1024]⟩

abbrev nBuf : Space → Nat
  | .hbm => 8
  | .vmem => 5
  | .smem => 0
  | _ => 0

abbrev bufTy : (tb : Table) → Fin (tcTables nBuf tb) → BufTy
  | .hbm, ⟨0, _⟩ => ⟨S9437184, .f32⟩
  | .hbm, ⟨1, _⟩ => ⟨S96x47, .bf16⟩
  | .hbm, ⟨2, _⟩ => ⟨S_, .i32⟩
  | .hbm, ⟨3, _⟩ => ⟨S_, .bf16⟩
  | .hbm, ⟨4, _⟩ => ⟨S96x48, .bf16⟩
  | .hbm, ⟨5, _⟩ => ⟨S96x144, .bf16⟩
  | .hbm, ⟨6, _⟩ => ⟨S3x24576x128, .f32⟩
  | .hbm, ⟨7, _⟩ => ⟨S96x196608, .f32⟩
  | .local _ .vmem, ⟨0, _⟩ => ⟨S3x512x128, .f32⟩
  | .local _ .vmem, ⟨1, _⟩ => ⟨S3x512x128, .f32⟩
  | .local _ .vmem, ⟨2, _⟩ => ⟨S96x144, .bf16⟩
  | .local _ .vmem, ⟨3, _⟩ => ⟨S96x4096, .f32⟩
  | .local _ .vmem, ⟨4, _⟩ => ⟨S96x4096, .f32⟩
  | _, _ => ⟨S9437184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S96x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DhReferenceIdeal.lean ====
abbrev S9437184 : Shape := ⟨1, ![9437184]⟩
abbrev S96x47 : Shape := ⟨2, ![96, 47]⟩
abbrev S3x192x128x8x16 : Shape := ⟨5, ![3, 192, 128, 8, 16]⟩
abbrev S192x8x128x3x16 : Shape := ⟨5, ![192, 8, 128, 3, 16]⟩
abbrev S196608x48 : Shape := ⟨2, ![196608, 48]⟩
abbrev S196608x47 : Shape := ⟨2, ![196608, 47]⟩
abbrev S196608x96 : Shape := ⟨2, ![196608, 96]⟩
abbrev S96x196608 : Shape := ⟨2, ![96, 196608]⟩

abbrev nBuf : Space → Nat
  | .hbm => 9
  | .vmem => 0
  | .smem => 0
  | _ => 0

abbrev bufTy : (tb : Table) → Fin (tcTables nBuf tb) → BufTy
  | .hbm, ⟨0, _⟩ => ⟨S9437184, .f32⟩
  | .hbm, ⟨1, _⟩ => ⟨S96x47, .bf16⟩
  | .hbm, ⟨2, _⟩ => ⟨S3x192x128x8x16, .f32⟩
  | .hbm, ⟨3, _⟩ => ⟨S192x8x128x3x16, .f32⟩
  | .hbm, ⟨4, _⟩ => ⟨S196608x48, .f32⟩
  | .hbm, ⟨5, _⟩ => ⟨S196608x47, .f32⟩
  | .hbm, ⟨6, _⟩ => ⟨S96x47, .f32⟩
  | .hbm, ⟨7, _⟩ => ⟨S196608x96, .f32⟩
  | .hbm, ⟨8, _⟩ => ⟨S96x196608, .f32⟩
  | _, _ => ⟨S9437184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AggTail.lean ====
abbrev S3145728 : Shape := ⟨1, ![3145728]⟩
abbrev S96x12 : Shape := ⟨2, ![96, 12]⟩
abbrev S196608x47 : Shape := ⟨2, ![196608, 47]⟩
abbrev S47x196608 : Shape := ⟨2, ![47, 196608]⟩
abbrev S_ : Shape := ⟨0, ![]⟩
abbrev S96x16 : Shape := ⟨2, ![96, 16]⟩
abbrev S96x48 : Shape := ⟨2, ![96, 48]⟩
abbrev S24576x128 : Shape := ⟨2, ![24576, 128]⟩
abbrev S96x196608 : Shape := ⟨2, ![96, 196608]⟩
abbrev S47x96 : Shape := ⟨2, ![47, 96]⟩
abbrev S512x128 : Shape := ⟨2, ![512, 128]⟩
abbrev S47x4096 : Shape := ⟨2, ![47, 4096]⟩
abbrev S96x4096 : Shape := ⟨2, ![96, 4096]⟩
abbrev S128x128 : Shape := ⟨2, ![128, 128]⟩
abbrev S16x128 : Shape := ⟨2, ![16, 128]⟩
abbrev S16x1024 : Shape := ⟨2, ![16, 1024]⟩
abbrev S48x1024 : Shape := ⟨2, ![48, 1024]⟩
abbrev S96x1024 : Shape := ⟨2, ![96, 1024]⟩
abbrev S47x1024 : Shape := ⟨2, ![47, 1024]⟩

abbrev nBuf : Space → Nat
  | .hbm => 13
  | .vmem => 8
  | .smem => 0
  | _ => 0

abbrev bufTy : (tb : Table) → Fin (tcTables nBuf tb) → BufTy
  | .hbm, ⟨0, _⟩ => ⟨S3145728, .f32⟩
  | .hbm, ⟨1, _⟩ => ⟨S96x12, .i8⟩
  | .hbm, ⟨2, _⟩ => ⟨S196608x47, .bf16⟩
  | .hbm, ⟨3, _⟩ => ⟨S47x196608, .bf16⟩
  | .hbm, ⟨4, _⟩ => ⟨S_, .i32⟩
  | .hbm, ⟨5, _⟩ => ⟨S_, .i8⟩
  | .hbm, ⟨6, _⟩ => ⟨S96x16, .i8⟩
  | .hbm, ⟨7, _⟩ => ⟨S96x16, .i32⟩
  | .hbm, ⟨8, _⟩ => ⟨S96x16, .bf16⟩
  | .hbm, ⟨9, _⟩ => ⟨S96x48, .bf16⟩
  | .hbm, ⟨10, _⟩ => ⟨S24576x128, .f32⟩
  | .hbm, ⟨11, _⟩ => ⟨S96x196608, .bf16⟩
  | .hbm, ⟨12, _⟩ => ⟨S47x96, .f32⟩
  | .local _ .vmem, ⟨0, _⟩ => ⟨S512x128, .f32⟩
  | .local _ .vmem, ⟨1, _⟩ => ⟨S512x128, .f32⟩
  | .local _ .vmem, ⟨2, _⟩ => ⟨S96x48, .bf16⟩
  | .local _ .vmem, ⟨3, _⟩ => ⟨S47x4096, .bf16⟩
  | .local _ .vmem, ⟨4, _⟩ => ⟨S47x4096, .bf16⟩
  | .local _ .vmem, ⟨5, _⟩ => ⟨S96x4096, .bf16⟩
  | .local _ .vmem, ⟨6, _⟩ => ⟨S96x4096, .bf16⟩
  | .local _ .vmem, ⟨7, _⟩ => ⟨S47x96, .f32⟩
  | _, _ => ⟨S3145728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S47x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S47x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AggReferenceIdeal.lean ====
abbrev S3145728 : Shape := ⟨1, ![3145728]⟩
abbrev S96x12 : Shape := ⟨2, ![96, 12]⟩
abbrev S196608x47 : Shape := ⟨2, ![196608, 47]⟩
abbrev S192x128x8x16 : Shape := ⟨4, ![192, 128, 8, 16]⟩
abbrev S192x8x128x16 : Shape := ⟨4, ![192, 8, 128, 16]⟩
abbrev S196608x16 : Shape := ⟨2, ![196608, 16]⟩
abbrev S196608x12 : Shape := ⟨2, ![196608, 12]⟩
abbrev S196608x96 : Shape := ⟨2, ![196608, 96]⟩
abbrev S_ : Shape := ⟨0, ![]⟩
abbrev S96x47 : Shape := ⟨2, ![96, 47]⟩
abbrev S96x196608 : Shape := ⟨2, ![96, 196608]⟩
abbrev S47x96 : Shape := ⟨2, ![47, 96]⟩

abbrev nBuf : Space → Nat
  | .hbm => 17
  | .vmem => 0
  | .smem => 0
  | _ => 0

abbrev bufTy : (tb : Table) → Fin (tcTables nBuf tb) → BufTy
  | .hbm, ⟨0, _⟩ => ⟨S3145728, .f32⟩
  | .hbm, ⟨1, _⟩ => ⟨S96x12, .i8⟩
  | .hbm, ⟨2, _⟩ => ⟨S196608x47, .bf16⟩
  | .hbm, ⟨3, _⟩ => ⟨S192x128x8x16, .f32⟩
  | .hbm, ⟨4, _⟩ => ⟨S192x8x128x16, .f32⟩
  | .hbm, ⟨5, _⟩ => ⟨S196608x16, .f32⟩
  | .hbm, ⟨6, _⟩ => ⟨S196608x12, .f32⟩
  | .hbm, ⟨7, _⟩ => ⟨S96x12, .i32⟩
  | .hbm, ⟨8, _⟩ => ⟨S96x12, .f32⟩
  | .hbm, ⟨9, _⟩ => ⟨S196608x96, .f32⟩
  | .hbm, ⟨10, _⟩ => ⟨S_, .f32⟩
  | .hbm, ⟨11, _⟩ => ⟨S196608x96, .f32⟩
  | .hbm, ⟨12, _⟩ => ⟨S196608x96, .f32⟩
  | .hbm, ⟨13, _⟩ => ⟨S196608x96, .bf16⟩
  | .hbm, ⟨14, _⟩ => ⟨S96x47, .f32⟩
  | .hbm, ⟨15, _⟩ => ⟨S96x196608, .bf16⟩
  | .hbm, ⟨16, _⟩ => ⟨S47x96, .f32⟩
  | _, _ => ⟨S3145728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Lanes.lean ====
/-
  Facts shared by the two tail kernels, about no program in particular.

  `eight_apply`: eight 16-row strips of a transposed 128×128 tile laid side by side (`128·g + r` ↦ strip `g`, lane `r`),
  read at an index. `lanes_apply` is the same from the untransposed tile.

  `finite_sub_self`: for a finite extended real `x`, `x - x = 0`: the reason the second and the third part of a value split
  into three parts vanish over the extended reals. It is false at an infinity, which is why the claims ask that the table
  be finite.

  `sum_three`: a sum over `3n` indices whose last two thirds vanish is the sum over the first third.
-/
module

public import Idealize.ShloMosaic.Lib.KernelVsHost
public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace Cert.Proof.Lanes

open Idealize.ShloMosaic Idealize.ShloMosaic.ValueIdx
open scoped BigOperators

abbrev STile : Shape := ⟨2, ![128, 128]⟩
abbrev STile1 : Shape := ⟨3, ![1, 128, 128]⟩
abbrev SStrip : Shape := ⟨2, ![16, 128]⟩
abbrev SWide : Shape := ⟨2, ![16, 1024]⟩

variable {α : Type}

/-- Eight strips of sixteen rows side by side: column `q` of row `j` is lane `q % 128` of row `16·(q / 128) + j`. -/
theorem eight_apply (x : STile.Idx → α) (h0 : STile.Slices ![0, 0] SStrip) (h1 : STile.Slices ![16, 0] SStrip)
    (h2 : STile.Slices ![32, 0] SStrip) (h3 : STile.Slices ![48, 0] SStrip) (h4 : STile.Slices ![64, 0] SStrip)
    (h5 : STile.Slices ![80, 0] SStrip) (h6 : STile.Slices ![96, 0] SStrip) (h7 : STile.Slices ![112, 0] SStrip)
    (hc : Shape.Concatenates [SStrip, SStrip, SStrip, SStrip, SStrip, SStrip, SStrip, SStrip] SWide 1)
    (j : Fin 16) (q : Fin 1024) :
    concatenate SWide 1 [⟨SStrip, extractStridedSlice SStrip ![0, 0] x h0⟩, ⟨SStrip, extractStridedSlice SStrip ![16, 0] x h1⟩,
      ⟨SStrip, extractStridedSlice SStrip ![32, 0] x h2⟩, ⟨SStrip, extractStridedSlice SStrip ![48, 0] x h3⟩,
      ⟨SStrip, extractStridedSlice SStrip ![64, 0] x h4⟩, ⟨SStrip, extractStridedSlice SStrip ![80, 0] x h5⟩,
      ⟨SStrip, extractStridedSlice SStrip ![96, 0] x h6⟩, ⟨SStrip, extractStridedSlice SStrip ![112, 0] x h7⟩] hc (ix2 j q)
    = x (ix2 ⟨16 * (q.val / 128) + j.val, by omega⟩ ⟨q.val % 128, by omega⟩) := by
  have hf : ∀ n : Fin 8, STile.Slices ![16 * n.val, 0] SStrip := by decide
  have key := concatenate_ofFn_apply (t := SWide) (s₁ := SStrip) 1 (N := 8)
    (fun n => extractStridedSlice SStrip ![16 * n.val, 0] x (hf n)) hc rfl 128 rfl (ix2 j q) ⟨q.val / 128, by omega⟩ rfl
    (ix2 j ⟨q.val % 128, by omega⟩) rfl (fun b hb => match b with
      | ⟨0, _⟩ => rfl
      | ⟨1, _⟩ => absurd rfl hb)
  refine Eq.trans ?_ (key.trans ?_)
  · rfl
  · exact extractStridedSlice_apply _ x _ _ _ (fun a => match a with
      | ⟨0, _⟩ => rfl
      | ⟨1, _⟩ => by show q.val % 128 = 0 + q.val % 128; omega)

/-- The same from the tile as it lies in memory (rows and lanes exchanged, a leading unit axis). -/
theorem lanes_apply (v : STile1.Idx → α) (hs : STile1.ShapeCasts STile) (hT : STile.Transposes [1, 0] STile)
    (h0 : STile.Slices ![0, 0] SStrip) (h1 : STile.Slices ![16, 0] SStrip)
    (h2 : STile.Slices ![32, 0] SStrip) (h3 : STile.Slices ![48, 0] SStrip) (h4 : STile.Slices ![64, 0] SStrip)
    (h5 : STile.Slices ![80, 0] SStrip) (h6 : STile.Slices ![96, 0] SStrip) (h7 : STile.Slices ![112, 0] SStrip)
    (hc : Shape.Concatenates [SStrip, SStrip, SStrip, SStrip, SStrip, SStrip, SStrip, SStrip] SWide 1)
    (j : Fin 16) (q : Fin 1024) :
    concatenate SWide 1 [⟨SStrip, extractStridedSlice SStrip ![0, 0] (transpose STile [1, 0] (shapeCast STile v hs) hT) h0⟩,
      ⟨SStrip, extractStridedSlice SStrip ![16, 0] (transpose STile [1, 0] (shapeCast STile v hs) hT) h1⟩,
      ⟨SStrip, extractStridedSlice SStrip ![32, 0] (transpose STile [1, 0] (shapeCast STile v hs) hT) h2⟩,
      ⟨SStrip, extractStridedSlice SStrip ![48, 0] (transpose STile [1, 0] (shapeCast STile v hs) hT) h3⟩,
      ⟨SStrip, extractStridedSlice SStrip ![64, 0] (transpose STile [1, 0] (shapeCast STile v hs) hT) h4⟩,
      ⟨SStrip, extractStridedSlice SStrip ![80, 0] (transpose STile [1, 0] (shapeCast STile v hs) hT) h5⟩,
      ⟨SStrip, extractStridedSlice SStrip ![96, 0] (transpose STile [1, 0] (shapeCast STile v hs) hT) h6⟩,
      ⟨SStrip, extractStridedSlice SStrip ![112, 0] (transpose STile [1, 0] (shapeCast STile v hs) hT) h7⟩] hc (ix2 j q)
    = v (ix3 0 ⟨q.val % 128, by omega⟩ ⟨16 * (q.val / 128) + j.val, by omega⟩) := by
  rw [eight_apply]
  rw [transpose_apply [1, 0] _ hT _ (ix2 ⟨q.val % 128, by omega⟩ ⟨16 * (q.val / 128) + j.val, by omega⟩) (fun b => match b with
    | ⟨0, _⟩ => rfl
    | ⟨1, _⟩ => rfl)]
  exact shapeCast_apply v hs _ _ (by
    rw [Shape.rowMajor_val_three, Shape.rowMajor_val_two]
    show ((0 * 128 + q.val % 128) * 128 + (16 * (q.val / 128) + j.val)) = (q.val % 128) * 128 + (16 * (q.val / 128) + j.val)
    omega)

/-- What the comparison `|x| < ∞` of the precondition says. -/
theorem finite_of_lt {x : EReal} (h : max x (-x) < ⊤) : x ≠ ⊤ ∧ x ≠ ⊥ := by
  refine ⟨fun e => ?_, fun e => ?_⟩ <;> subst e <;> simp at h

/-- Every entry of an array is a real number. -/
abbrev Fin3 {s : Shape} (v : s.Idx → EReal) : Prop := ∀ i, v i ≠ ⊤ ∧ v i ≠ ⊥

/-- A finite extended real less itself is zero. -/
theorem finite_sub_self {x : EReal} (h : x ≠ ⊤ ∧ x ≠ ⊥) : x - x = 0 := EReal.sub_self h.1 h.2

/-- A sum over three equal stretches of which the last two vanish. -/
theorem sum_three {n : Nat} (f : Fin (n + (n + n)) → EReal) (g : Fin n → EReal)
    (h0 : ∀ k : Fin n, f (Fin.castAdd (n + n) k) = g k) (h1 : ∀ k : Fin (n + n), f (Fin.natAdd n k) = 0) :
    ∑ k, f k = ∑ k, g k := by
  rw [Fin.sum_univ_add, Finset.sum_congr rfl fun k _ => h0 k, Finset.sum_eq_zero fun k _ => h1 k, add_zero]

/-! ## A product with a value split into three parts -/

/-- The three parts stacked: `x` itself, `x` less its rounding, and what the rounding of that leaves. Over the extended
    reals a rounding is the identity, so for a finite `x` the second and third parts are zero. -/
theorem split_apply {K N : ℕ} (hK : 0 < K) (x : FVec Ideal ⟨2, ![K, N]⟩ .f32)
    (hx : ∀ i, (x i : EReal) ≠ ⊤ ∧ (x i : EReal) ≠ ⊥) (hb : FTy.bits .bf16 < FTy.bits .f32)
    (hc : Shape.Concatenates [⟨2, ![K, N]⟩, ⟨2, ![K, N]⟩, ⟨2, ![K, N]⟩] ⟨2, ![K + (K + K), N]⟩ 0)
    (c : Fin (K + (K + K))) (q : Fin N) :
    concatenate (⟨2, ![K + (K + K), N]⟩ : Shape) 0
      [⟨⟨2, ![K, N]⟩, (truncf .bf16 x hb : FVec Ideal ⟨2, ![K, N]⟩ .bf16)⟩,
       ⟨⟨2, ![K, N]⟩, (truncf .bf16 (subf x (extf .f32 (truncf .bf16 x hb) hb)) hb : FVec Ideal ⟨2, ![K, N]⟩ .bf16)⟩,
       ⟨⟨2, ![K, N]⟩, (truncf .bf16 (subf (subf x (extf .f32 (truncf .bf16 x hb) hb))
          (extf .f32 (truncf .bf16 (subf x (extf .f32 (truncf .bf16 x hb) hb)) hb) hb)) hb : FVec Ideal ⟨2, ![K, N]⟩ .bf16)⟩] hc (ix2 c q)
    = if h : c.val < K then x (ix2 ⟨c.val, h⟩ q) else (0 : EReal) := by
  have key : ∀ n : Fin 3, c.val / K = n.val → _ := fun n hn => concatenate_ofFn_apply (t := ⟨2, ![K + (K + K), N]⟩) (s₁ := ⟨2, ![K, N]⟩) 0 (N := 3)
    ![(truncf .bf16 x hb : FVec Ideal ⟨2, ![K, N]⟩ .bf16),
      truncf .bf16 (subf x (extf .f32 (truncf .bf16 x hb) hb)) hb,
      truncf .bf16 (subf (subf x (extf .f32 (truncf .bf16 x hb) hb))
          (extf .f32 (truncf .bf16 (subf x (extf .f32 (truncf .bf16 x hb) hb)) hb) hb)) hb] hc rfl K rfl (ix2 c q) n hn
    (ix2 ⟨c.val % K, Nat.mod_lt _ hK⟩ q) rfl (fun b hb => match b with
      | ⟨0, _⟩ => absurd rfl hb
      | ⟨1, _⟩ => rfl)
  have hsub : ∀ y : EReal, y ≠ ⊤ ∧ y ≠ ⊥ → (y - y) - (y - y) = 0 := fun y hy => by rw [finite_sub_self hy]; simp
  by_cases h : c.val < K
  · rw [dif_pos h]
    refine (key 0 (Nat.div_eq_of_lt h)).trans ?_
    show x (ix2 ⟨c.val % K, _⟩ q) = _
    congr 2
    exact Fin.ext (Nat.mod_eq_of_lt h)
  · rw [dif_neg h]
    by_cases h2 : c.val < K + K
    · have e : c.val / K = (1 : Fin 3).val := by
        show c.val / K = 1
        rw [Nat.div_eq_iff hK]; omega
      refine (key 1 e).trans ?_
      exact finite_sub_self (hx _)
    · have e : c.val / K = (2 : Fin 3).val := by
        show c.val / K = 2
        rw [Nat.div_eq_iff hK]; omega
      refine (key 2 e).trans ?_
      exact hsub _ (hx _)

/-- So a product whose right operand is those three stacked parts is the product of the first part alone, by the first
    third of the left operand's columns. -/
theorem split_product {M K N : ℕ} (hK : 0 < K) (w : FVec Ideal ⟨2, ![M, K + (K + K)]⟩ .bf16) (x : FVec Ideal ⟨2, ![K, N]⟩ .f32)
    (y : FVec Ideal ⟨2, ![K + (K + K), N]⟩ .bf16)
    (hy : ∀ c q, y (ix2 c q) = if h : c.val < K then x (ix2 ⟨c.val, h⟩ q) else (0 : EReal)) (d : Fin M) (q : Fin N) :
    matmul (DotDims.plain M (K + (K + K)) N) none w y (constant ⟨2, ![M, N]⟩ .f32 0x00000000#32) (ix2 d q)
      = ∑ k : Fin K, (w (ix2 d (Fin.castAdd (K + K) k)) : EReal) * x (ix2 k q) := by
  refine (Ideal.matmul_plain_apply none w y _ d q).trans ?_
  rw [show (constant ⟨2, ![M, N]⟩ .f32 0x00000000#32 : FVec Ideal ⟨2, ![M, N]⟩ .f32) (ix2 d q) = (0 : EReal) from Ideal.ofBits_zero_f32,
    zero_add]
  refine sum_three _ _ (fun k => ?_) (fun k => ?_)
  · simp only [hy]
    rw [dif_pos (show (Fin.castAdd (K + K) k).val < K from k.isLt)]
    rfl
  · simp only [hy]
    rw [dif_neg (show ¬(Fin.natAdd K k).val < K by simp), mul_zero]

/-- Three arrays side by side: a column below `K` is the first array's. -/
theorem first_of_three {β : Type} {M K : ℕ} (x y z : (⟨2, ![M, K]⟩ : Shape).Idx → β)
    (hc : Shape.Concatenates [⟨2, ![M, K]⟩, ⟨2, ![M, K]⟩, ⟨2, ![M, K]⟩] ⟨2, ![M, K + (K + K)]⟩ 1) (d : Fin M) (k : Fin K) :
    concatenate ⟨2, ![M, K + (K + K)]⟩ 1 [⟨⟨2, ![M, K]⟩, x⟩, ⟨⟨2, ![M, K]⟩, y⟩, ⟨⟨2, ![M, K]⟩, z⟩] hc (ix2 d (Fin.castAdd (K + K) k))
      = x (ix2 d k) := by
  refine Eq.trans ?_ ((concatenate_ofFn_apply (t := ⟨2, ![M, K + (K + K)]⟩) (s₁ := ⟨2, ![M, K]⟩) 1 (N := 3) ![x, y, z] hc rfl K rfl
    (ix2 d (Fin.castAdd (K + K) k)) 0 (Nat.div_eq_of_lt k.isLt) (ix2 d k) (Nat.mod_eq_of_lt k.isLt).symm (fun b hb => match b with
      | ⟨0, _⟩ => rfl
      | ⟨1, _⟩ => absurd rfl hb)).trans rfl)
  rfl

/-- `e` columns of padding on the right: the array below `K`, the padding value from `K` on. -/
theorem pad_columns {β : Type} {M K e : ℕ} (x : (⟨2, ![M, K]⟩ : Shape).Idx → β) {u : Shape} (v : u.Idx → β)
    (h : (⟨2, ![M, K]⟩ : Shape).Pads (![0, 0] : Fin 2 → ℕ) ![0, e] ![0, 0] ⟨2, ![M, K + e]⟩) (hu : 0 < u.numel) (d : Fin M) (k : Fin (K + e)) :
    pad ⟨2, ![M, K + e]⟩ ![0, 0] ![0, e] ![0, 0] x v h hu (ix2 d k)
      = if hk : k.val < K then x (ix2 d ⟨k.val, hk⟩) else v (Shape.Idx.first hu) := by
  by_cases hk : k.val < K
  · rw [dif_pos hk]
    refine pad_apply_of_inside _ _ _ x v h hu _ (ix2 d ⟨k.val, hk⟩) (fun a => ?_)
    match a with
    | ⟨0, _⟩ => show d.val = 0 + d.val * (0 + 1); omega
    | ⟨1, _⟩ => show k.val = 0 + k.val * (0 + 1); omega
  · rw [dif_neg hk]
    refine pad_apply_of_not_inside _ _ _ x v h hu _ 1 (fun hin => hk ?_)
    have h2 : (k.val - 0) / (0 + 1) < K := hin.2.2
    simpa using h2

/-- The bit of `|x| < +inf` says that `x` is finite. -/
theorem finite_of_bit {x : EReal} (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  refine finite_of_lt ?_
  by_contra hn
  simp [Ideal.cmp, hn] at h

/-- A sum whose last term vanishes. -/
theorem drop_last {n : ℕ} (f : Fin (n + 1) → EReal) (h : f (Fin.last n) = 0) : ∑ k, f k = ∑ k : Fin n, f (Fin.castSucc k) := by
  rw [Fin.sum_univ_castSucc, h, add_zero]

end Cert.Proof.Lanes

end
-- ==== Proof.PrepBlock.lean ====
/-
  WHAT ONE BLOCK OF `prep` COMPUTES. A grid point reads 4096 nodes: three bytes of packed codes, a scale and an offset each, and
  a row of `dy`. `node` is one node's entry of the code table, `word` one node's entry of the table of `dy`; the block's arrays
  hold them at the tables' order of nodes.
-/
module

public import Idealize.ShloMosaic.Lib.Pipeline.ValueKit
public import Idealize.ShloMosaic.Lib.Pipeline.ValueKit.Tiles
public import Idealize.ShloMosaic.Lib.Pointwise
public import proofs.«01_k».proof.Proof.Lanes
public import proofs.«01_k».proof.Proof.Gen.Prep.Frame

@[expose] public section

set_option maxRecDepth 16384

noncomputable section

namespace Cert.Proof.PrepBlock

open Idealize.ShloMosaic hiding ix1 ix2 ix3 ix4 ix5 eq_ix1 eq_ix2 eq_ix3 eq_ix4 eq_ix5
open Idealize.ShloMosaic.ValueIdx Idealize.ShloMosaic.TcCoe
open Cert.Prep Cert.Prep.Gen

/-- Code `j` of a node: two bits of its byte `j / 4`, from bit `2·(j mod 4)` on. -/
def code (z : Fin 3 → BitVec 8) (j : Fin 12) : BitVec 32 :=
  IntOp.andi (IntOp.shrsi .vector ((z ⟨j.val / 4, by omega⟩).setWidth 32)
    (IntOp.muli (IntOp.andi (BitVec.ofNat 32 j.val) 3#32) 2#32)) 3#32

/-- A node's entry of the code table: scale times code plus offset for the twelve codes, zero in the four columns that pad. -/
def node (z : Fin 3 → BitVec 8) (s o : Bits .f32) (j : Fin 16) : Bits .f32 :=
  if h : j.val < 12 then FloatOps.addf (FloatOps.mulf s (FloatOps.sitofp .f32 (code z ⟨j.val, h⟩))) o
  else FloatOps.ofBits .f32 0x00000000#32

/-- The bits of a node's value of `dy` in column `k`, as a 32-bit float; the bits of zero in the column that pads. -/
def bits (d : Fin 47 → Bits .bf16) (k : Fin 48) : BitVec 32 :=
  BitOps.toBits (if h : k.val < 47 then FloatOps.extf .f32 bitsLt_bf16_f32 (d ⟨k.val, h⟩) else FloatOps.ofBits (F := Bits) .f32 0x00000000#32)

/-- A node's entry of the table of `dy`: columns 0–15 and 16–31 two to a word, then columns 32–47. -/
def word (d : Fin 47 → Bits .bf16) (k : Fin 32) : BitVec 32 :=
  if h : k.val < 16 then IntOp.ori (IntOp.shrui .vector (bits d ⟨k.val, by omega⟩) 16#32) (bits d ⟨16 + k.val, by omega⟩)
  else bits d ⟨16 + k.val, by omega⟩

/-- The twelve rows of bytes, each byte four times. -/
theorem rows_apply {w : ℕ} (v : IVec S3x4096 w) (hc) (j : Fin 12) (q : Fin 4096) :
    concatenate S12x4096 0 [⟨S1x4096, extractStridedSlice S1x4096 ![0, 0] v slices_S3x4096_o0_0_S1x4096⟩,
      ⟨S1x4096, extractStridedSlice S1x4096 ![0, 0] v slices_S3x4096_o0_0_S1x4096⟩,
      ⟨S1x4096, extractStridedSlice S1x4096 ![0, 0] v slices_S3x4096_o0_0_S1x4096⟩,
      ⟨S1x4096, extractStridedSlice S1x4096 ![0, 0] v slices_S3x4096_o0_0_S1x4096⟩,
      ⟨S1x4096, extractStridedSlice S1x4096 ![1, 0] v slices_S3x4096_o1_0_S1x4096⟩,
      ⟨S1x4096, extractStridedSlice S1x4096 ![1, 0] v slices_S3x4096_o1_0_S1x4096⟩,
      ⟨S1x4096, extractStridedSlice S1x4096 ![1, 0] v slices_S3x4096_o1_0_S1x4096⟩,
      ⟨S1x4096, extractStridedSlice S1x4096 ![1, 0] v slices_S3x4096_o1_0_S1x4096⟩,
      ⟨S1x4096, extractStridedSlice S1x4096 ![2, 0] v slices_S3x4096_o2_0_S1x4096⟩,
      ⟨S1x4096, extractStridedSlice S1x4096 ![2, 0] v slices_S3x4096_o2_0_S1x4096⟩,
      ⟨S1x4096, extractStridedSlice S1x4096 ![2, 0] v slices_S3x4096_o2_0_S1x4096⟩,
      ⟨S1x4096, extractStridedSlice S1x4096 ![2, 0] v slices_S3x4096_o2_0_S1x4096⟩] hc (ix2 j q)
      = v (ix2 ⟨j.val / 4, by omega⟩ q) := by
  let f : Fin 12 → (S1x4096.Idx → BitVec w) := fun n => fun i => v (ix2 ⟨n.val / 4, by omega⟩ ⟨(i 1).val, (i 1).isLt⟩)
  have e0 : extractStridedSlice S1x4096 ![0, 0] v slices_S3x4096_o0_0_S1x4096 = fun i => v (ix2 0 ⟨(i 1).val, (i 1).isLt⟩) := funext fun i =>
    extractStridedSlice_apply _ _ _ _ _ (fun a => match a with
      | ⟨0, _⟩ => by have h : (i 0).val < 1 := (i 0).isLt; show 0 = 0 + (i 0).val; omega
      | ⟨1, _⟩ => by show (i 1).val = 0 + (i 1).val; omega)
  have e1 : extractStridedSlice S1x4096 ![1, 0] v slices_S3x4096_o1_0_S1x4096 = fun i => v (ix2 1 ⟨(i 1).val, (i 1).isLt⟩) := funext fun i =>
    extractStridedSlice_apply _ _ _ _ _ (fun a => match a with
      | ⟨0, _⟩ => by have h : (i 0).val < 1 := (i 0).isLt; show 1 = 1 + (i 0).val; omega
      | ⟨1, _⟩ => by show (i 1).val = 0 + (i 1).val; omega)
  have e2 : extractStridedSlice S1x4096 ![2, 0] v slices_S3x4096_o2_0_S1x4096 = fun i => v (ix2 2 ⟨(i 1).val, (i 1).isLt⟩) := funext fun i =>
    extractStridedSlice_apply _ _ _ _ _ (fun a => match a with
      | ⟨0, _⟩ => by have h : (i 0).val < 1 := (i 0).isLt; show 2 = 2 + (i 0).val; omega
      | ⟨1, _⟩ => by show (i 1).val = 0 + (i 1).val; omega)
  rw [e0, e1, e2]
  refine Eq.trans ?_ ((concatenate_ofFn_unit_apply (t := S12x4096) (s₁ := S1x4096) 0 (N := 12) f hc rfl rfl (ix2 j q) j rfl (ix2 0 q)
    (fun b hb => match b with
      | ⟨0, _⟩ => absurd rfl hb
      | ⟨1, _⟩ => rfl)).trans rfl)
  rfl

/-- The decoded block, entry by entry. -/
theorem decoded (v0 : Vec Bits S3x4096 .i8) (v25 v29 : Vec Bits S1x4096 .f32) (j : Fin 16) (q : Fin 4096) :
    k0_pay5 (F := Bits) v0 v25 v29 (ix2 j q) = node (fun a => v0 (ix2 a q)) (v25 (ix2 0 q)) (v29 (ix2 0 q)) j := by
  unfold k0_pay5 node
  by_cases h : j.val < 12
  · rw [dif_pos h]
    refine (concatenate_pair_apply_left (t := S16x4096) (s₁ := S12x4096) (s₂ := S4x4096) 0 _ _ _ (ix2 j q) rfl (ix2 ⟨j.val, h⟩ q) (fun b => match b with | ⟨0, _⟩ => rfl | ⟨1, _⟩ => rfl)).trans ?_
    have hr := rows_apply (extui 32 (shapeCast S3x4096 v0 shapeCasts_S3x4096_S3x4096) natLt_8_32)
      concatenates_S1x4096_S1x4096_S1x4096_S1x4096_S1x4096_S1x4096_S1x4096_S1x4096_S1x4096_S1x4096_S1x4096_S1x4096_S12x4096_d0 ⟨j.val, h⟩ q
    have hz : shapeCast S3x4096 v0 shapeCasts_S3x4096_S3x4096 (ix2 ⟨j.val / 4, by omega⟩ q) = v0 (ix2 ⟨j.val / 4, by omega⟩ q) :=
      shapeCast_apply v0 _ _ _ rfl
    have hb : ∀ v : Vec Bits S1x4096 .f32, broadcastTo S12x4096 (shapeCast S1x4096 v shapeCasts_S1x4096_S1x4096) broadcasts_S1x4096_S12x4096
        (ix2 ⟨j.val, h⟩ q) = v (ix2 0 q) := fun v =>
      (broadcastTo_apply _ _ _ (ix2 0 q) (fun a => match a with | ⟨0, _⟩ => rfl | ⟨1, _⟩ => rfl)).trans (shapeCast_apply v _ _ _ rfl)
    refine congrArg₂ (fun a b : Bits .f32 => FloatOps.addf a b) (congrArg₂ (fun a b : Bits .f32 => FloatOps.mulf a b) (hb v25)
      (congrArg (fun b : BitVec 32 => FloatOps.sitofp (F := Bits) .f32 (IntOp.andi b 3#32))
        (congrArg₂ (fun a b : BitVec 32 => IntOp.shrsi .vector a b) (hr.trans (congrArg (fun b : BitVec 8 => b.setWidth 32) hz)) ?_))) (hb v29)
    show IntOp.muli (IntOp.andi (BitVec.ofNat 32 (0 * 12 + j.val)) 3#32) 2#32 = IntOp.muli (IntOp.andi (BitVec.ofNat 32 j.val) 3#32) 2#32
    rw [Nat.zero_mul, Nat.zero_add]
  · rw [dif_neg h]
    exact (concatenate_pair_apply_right (t := S16x4096) (s₁ := S12x4096) (s₂ := S4x4096) 0 _ _ _ (ix2 j q) rfl rfl (ix2 ⟨j.val - 12, by omega⟩ q)
      (fun b hb => match b with | ⟨0, _⟩ => absurd rfl hb | ⟨1, _⟩ => rfl) (by show j.val - 12 + 12 = j.val; omega)).trans rfl

/-- The bits of the widened block of `dy`. -/
theorem bits_apply (v : Vec Bits S47x4096 .bf16) (k : Fin 48) (q : Fin 4096) :
    k0_pay6 (F := Bits) v (ix2 k q) = bits (fun a => v (ix2 a q)) k := by
  unfold k0_pay6 bits
  refine congrArg (fun b : Bits .f32 => BitOps.toBits b) ?_
  by_cases h : k.val < 47
  · rw [dif_pos h]
    refine (concatenate_pair_apply_left (t := S48x4096) (s₁ := S47x4096) (s₂ := S1x4096) 0 _ _ _ (ix2 k q) rfl (ix2 ⟨k.val, h⟩ q) (fun b => match b with | ⟨0, _⟩ => rfl | ⟨1, _⟩ => rfl)).trans ?_
    exact congrArg (fun b : Bits .bf16 => FloatOps.extf (F := Bits) .f32 bitsLt_bf16_f32 b) (shapeCast_apply v _ _ _ rfl)
  · rw [dif_neg h]
    exact (concatenate_pair_apply_right (t := S48x4096) (s₁ := S47x4096) (s₂ := S1x4096) 0 _ _ _ (ix2 k q) rfl rfl (ix2 ⟨k.val - 47, by omega⟩ q)
      (fun b hb => match b with | ⟨0, _⟩ => absurd rfl hb | ⟨1, _⟩ => rfl) (by show k.val - 47 + 47 = k.val; omega)).trans rfl

/-- The packed block, entry by entry. -/
theorem packed (v : Vec Bits S47x4096 .bf16) (k : Fin 32) (q : Fin 4096) :
    k0_pay9 (k0_pay6 (F := Bits) v) (k0_pay7 (F := Bits) v) (k0_pay8 (F := Bits) v) (ix2 k q) = word (fun a => v (ix2 a q)) k := by
  unfold k0_pay9 word
  by_cases h : k.val < 16
  · rw [dif_pos h]
    refine (concatenate_pair_apply_left (t := S32x4096) (s₁ := S16x4096) (s₂ := S16x4096) 0 _ _ _ (ix2 k q) rfl (ix2 ⟨k.val, h⟩ q) (fun b => match b with | ⟨0, _⟩ => rfl | ⟨1, _⟩ => rfl)).trans ?_
    refine congrArg₂ (fun a b : BitVec 32 => IntOp.ori (IntOp.shrui .vector a 16#32) b) ?_ ?_
    · exact (extractStridedSlice_apply _ _ _ _ (ix2 ⟨k.val, by omega⟩ q) (fun a => match a with
        | ⟨0, _⟩ => by show k.val = 0 + k.val; omega
        | ⟨1, _⟩ => by show q.val = 0 + q.val; omega)).trans (bits_apply v _ q)
    · exact (extractStridedSlice_apply _ _ slices_S48x4096_o16_0_S16x4096 _ (ix2 ⟨16 + k.val, by omega⟩ q) (fun a => match a with
        | ⟨0, _⟩ => rfl
        | ⟨1, _⟩ => by show q.val = 0 + q.val; omega)).trans (bits_apply v _ q)
  · rw [dif_neg h]
    refine (concatenate_pair_apply_right (t := S32x4096) (s₁ := S16x4096) (s₂ := S16x4096) 0 _ _ _ (ix2 k q) rfl rfl (ix2 ⟨k.val - 16, by omega⟩ q)
      (fun b hb => match b with | ⟨0, _⟩ => absurd rfl hb | ⟨1, _⟩ => rfl) (by show k.val - 16 + 16 = k.val; omega)).trans ?_
    exact (extractStridedSlice_apply _ _ _ _ (ix2 ⟨16 + k.val, by omega⟩ q) (fun a => match a with
        | ⟨0, _⟩ => by show 16 + k.val = 32 + (k.val - 16); omega
        | ⟨1, _⟩ => by show q.val = 0 + q.val; omega)).trans (bits_apply v _ q)

/-- Eight strips of 128 columns one below the other, transposed. -/
theorem strips_apply {α : Type} (x : S16x1024.Idx → α) (h0 : S16x1024.Slices ![0, 0] S16x128) (h1 : S16x1024.Slices ![0, 128] S16x128)
    (h2 : S16x1024.Slices ![0, 256] S16x128) (h3 : S16x1024.Slices ![0, 384] S16x128) (h4 : S16x1024.Slices ![0, 512] S16x128)
    (h5 : S16x1024.Slices ![0, 640] S16x128) (h6 : S16x1024.Slices ![0, 768] S16x128) (h7 : S16x1024.Slices ![0, 896] S16x128)
    (hc : Shape.Concatenates [S16x128, S16x128, S16x128, S16x128, S16x128, S16x128, S16x128, S16x128] S128x128 0)
    (ht : S128x128.Transposes [1, 0] S128x128) (r l : Fin 128) :
    transpose S128x128 [1, 0] (concatenate S128x128 0 [⟨S16x128, extractStridedSlice S16x128 ![0, 0] x h0⟩,
      ⟨S16x128, extractStridedSlice S16x128 ![0, 128] x h1⟩, ⟨S16x128, extractStridedSlice S16x128 ![0, 256] x h2⟩,
      ⟨S16x128, extractStridedSlice S16x128 ![0, 384] x h3⟩, ⟨S16x128, extractStridedSlice S16x128 ![0, 512] x h4⟩,
      ⟨S16x128, extractStridedSlice S16x128 ![0, 640] x h5⟩, ⟨S16x128, extractStridedSlice S16x128 ![0, 768] x h6⟩,
      ⟨S16x128, extractStridedSlice S16x128 ![0, 896] x h7⟩] hc) ht (ix2 r l)
      = x (ix2 ⟨l.val % 16, by omega⟩ ⟨128 * (l.val / 16) + r.val, by omega⟩) := by
  have hf : ∀ n : Fin 8, S16x1024.Slices ![0, 128 * n.val] S16x128 := by decide
  have key := concatenate_ofFn_apply (t := S128x128) (s₁ := S16x128) 0 (N := 8)
    (fun n => extractStridedSlice S16x128 ![0, 128 * n.val] x (hf n)) hc rfl 16 rfl (ix2 l r) ⟨l.val / 16, by omega⟩ rfl
    (ix2 ⟨l.val % 16, by omega⟩ r) rfl (fun b hb => match b with
      | ⟨0, _⟩ => absurd rfl hb
      | ⟨1, _⟩ => rfl)
  refine (transpose_apply _ _ _ _ (ix2 l r) (fun b => match b with | ⟨0, _⟩ => rfl | ⟨1, _⟩ => rfl)).trans
    (Eq.trans ?_ (key.trans ?_))
  · rfl
  · exact extractStridedSlice_apply _ x _ _ _ (fun a => match a with
      | ⟨0, _⟩ => by show l.val % 16 = 0 + l.val % 16; omega
      | ⟨1, _⟩ => rfl)

/-- Four strips of 256 columns one below the other, transposed. -/
theorem wide_strips_apply {α : Type} (x : S32x1024.Idx → α) (h0 : S32x1024.Slices ![0, 0] S32x256) (h1 : S32x1024.Slices ![0, 256] S32x256)
    (h2 : S32x1024.Slices ![0, 512] S32x256) (h3 : S32x1024.Slices ![0, 768] S32x256)
    (hc : Shape.Concatenates [S32x256, S32x256, S32x256, S32x256] S128x256 0)
    (ht : S128x256.Transposes [1, 0] S256x128) (r : Fin 256) (l : Fin 128) :
    transpose S256x128 [1, 0] (concatenate S128x256 0 [⟨S32x256, extractStridedSlice S32x256 ![0, 0] x h0⟩,
      ⟨S32x256, extractStridedSlice S32x256 ![0, 256] x h1⟩, ⟨S32x256, extractStridedSlice S32x256 ![0, 512] x h2⟩,
      ⟨S32x256, extractStridedSlice S32x256 ![0, 768] x h3⟩] hc) ht (ix2 r l)
      = x (ix2 ⟨l.val % 32, by omega⟩ ⟨256 * (l.val / 32) + r.val, by omega⟩) := by
  have hf : ∀ n : Fin 4, S32x1024.Slices ![0, 256 * n.val] S32x256 := by decide
  have key := concatenate_ofFn_apply (t := S128x256) (s₁ := S32x256) 0 (N := 4)
    (fun n => extractStridedSlice S32x256 ![0, 256 * n.val] x (hf n)) hc rfl 32 rfl (ix2 l r) ⟨l.val / 32, by omega⟩ rfl
    (ix2 ⟨l.val % 32, by omega⟩ r) rfl (fun b hb => match b with
      | ⟨0, _⟩ => absurd rfl hb
      | ⟨1, _⟩ => rfl)
  refine (transpose_apply _ _ _ _ (ix2 l r) (fun b => match b with | ⟨0, _⟩ => rfl | ⟨1, _⟩ => rfl)).trans
    (Eq.trans ?_ (key.trans ?_))
  · rfl
  · exact extractStridedSlice_apply _ x _ _ _ (fun a => match a with
      | ⟨0, _⟩ => by show l.val % 32 = 0 + l.val % 32; omega
      | ⟨1, _⟩ => rfl)

/-- The 1024 columns from `1024·m` on, in a slice. -/
theorem quarter_apply {α : Type} {R : ℕ} (x : (⟨2, ![R, 4096]⟩ : Shape).Idx → α) (m : Fin 4) (off : Fin 2 → ℕ) (ho : off = ![0, 1024 * m.val])
    (h : (⟨2, ![R, 4096]⟩ : Shape).Slices off ⟨2, ![R, 1024]⟩) (j : Fin R) (q : Fin 1024) :
    extractStridedSlice ⟨2, ![R, 1024]⟩ off x h (ix2 j q) = x (ix2 j ⟨1024 * m.val + q.val, by omega⟩) := by
  subst ho
  exact extractStridedSlice_apply _ x _ _ _ (fun a => match a with
    | ⟨0, _⟩ => by show j.val = 0 + j.val; omega
    | ⟨1, _⟩ => rfl)

/-- Entry `(r, l)` of the tile of block `m` of a decoded array. -/
def tile (A : FVec Bits S16x4096 .f32) (m : Fin 4) : FVec Bits S128x128 .f32 := fun i =>
  A (ix2 ⟨(i 1).val % 16, by omega⟩ ⟨1024 * m.val + (128 * ((i 1).val / 16) + (i 0).val), by
    have h0 : (i 0).val < 128 := (i 0).isLt; have h1 : (i 1).val < 128 := (i 1).isLt; omega⟩)

/-- Entry `(r, l)` of the tile of block `m` of a packed array. -/
def wideTile (W : IVec S32x4096 32) (m : Fin 4) : IVec S256x128 32 := fun i =>
  W (ix2 ⟨(i 1).val % 32, by omega⟩ ⟨1024 * m.val + (256 * ((i 1).val / 32) + (i 0).val), by
    have h0 : (i 0).val < 256 := (i 0).isLt; have h1 : (i 1).val < 128 := (i 1).isLt; omega⟩)

/-- The four tiles of the code table. -/
theorem tile_first (A : FVec Bits S16x4096 .f32) : k0_pay10 A = tile A 0 := funext fun i => by
  obtain ⟨r, l, rfl⟩ : ∃ (r l : Fin 128), i = ix2 r l := ⟨i 0, i 1, eq_ix2 i⟩
  exact (strips_apply _ _ _ _ _ _ _ _ _ _ _ r l).trans (quarter_apply (R := 16) A 0 _ rfl _ _ _)
theorem tile_second (A : FVec Bits S16x4096 .f32) : k0_pay12 A = tile A 1 := funext fun i => by
  obtain ⟨r, l, rfl⟩ : ∃ (r l : Fin 128), i = ix2 r l := ⟨i 0, i 1, eq_ix2 i⟩
  exact (strips_apply _ _ _ _ _ _ _ _ _ _ _ r l).trans (quarter_apply (R := 16) A 1 _ rfl _ _ _)
theorem tile_third (A : FVec Bits S16x4096 .f32) :
    k0_pay1 (k0_pay14 A) (k0_pay15 A) (k0_pay16 A) (k0_pay17 A) (k0_pay18 A) = tile A 2 := funext fun i => by
  obtain ⟨r, l, rfl⟩ : ∃ (r l : Fin 128), i = ix2 r l := ⟨i 0, i 1, eq_ix2 i⟩
  exact (strips_apply (k0_pay14 A) slices_S16x1024_o0_0_S16x128 slices_S16x1024_o0_128_S16x128 slices_S16x1024_o0_256_S16x128
    slices_S16x1024_o0_384_S16x128 _ _ _ _ _ _ r l).trans (quarter_apply (R := 16) A 2 _ rfl slices_S16x4096_o0_2048_S16x1024 _ _)
theorem tile_fourth (A : FVec Bits S16x4096 .f32) : k0_pay3 A = tile A 3 := funext fun i => by
  obtain ⟨r, l, rfl⟩ : ∃ (r l : Fin 128), i = ix2 r l := ⟨i 0, i 1, eq_ix2 i⟩
  exact (strips_apply _ _ _ _ _ _ _ _ _ _ _ r l).trans (quarter_apply (R := 16) A 3 _ rfl _ _ _)

/-- The four tiles of the table of `dy`. -/
theorem wide_first (P : IVec S48x4096 32) (Q R : IVec S16x4096 32) : k0_pay11 P Q R = wideTile (k0_pay9 P Q R) 0 := funext fun i => by
  obtain ⟨r, l, rfl⟩ : ∃ (r : Fin 256) (l : Fin 128), i = ix2 r l := ⟨i 0, i 1, eq_ix2 i⟩
  exact (wide_strips_apply _ _ _ _ _ _ _ r l).trans (quarter_apply (R := 32) (k0_pay9 P Q R) 0 _ rfl _ _ _)
theorem wide_second (P : IVec S48x4096 32) (Q R : IVec S16x4096 32) : k0_pay13 P Q R = wideTile (k0_pay9 P Q R) 1 := funext fun i => by
  obtain ⟨r, l, rfl⟩ : ∃ (r : Fin 256) (l : Fin 128), i = ix2 r l := ⟨i 0, i 1, eq_ix2 i⟩
  exact (wide_strips_apply _ _ _ _ _ _ _ r l).trans (quarter_apply (R := 32) (k0_pay9 P Q R) 1 _ rfl _ _ _)
theorem wide_third (W : IVec S32x4096 32) : k0_pay2 W = wideTile W 2 := funext fun i => by
  obtain ⟨r, l, rfl⟩ : ∃ (r : Fin 256) (l : Fin 128), i = ix2 r l := ⟨i 0, i 1, eq_ix2 i⟩
  exact (wide_strips_apply _ _ _ _ _ _ _ r l).trans (quarter_apply (R := 32) W 2 _ rfl _ _ _)
theorem wide_fourth (W : IVec S32x4096 32) : k0_pay4 W = wideTile W 3 := funext fun i => by
  obtain ⟨r, l, rfl⟩ : ∃ (r : Fin 256) (l : Fin 128), i = ix2 r l := ⟨i 0, i 1, eq_ix2 i⟩
  exact (wide_strips_apply _ _ _ _ _ _ _ r l).trans (quarter_apply (R := 32) W 3 _ rfl _ _ _)

/-- The block of the code table: entry `(r, l)` is column `l mod 16` of node `1024·(r / 128) + 128·(l / 16) + r mod 128`. -/
def codeBlock (A : FVec Bits S16x4096 .f32) : FVec Bits S512x128 .f32 := fun i =>
  A (ix2 ⟨(i 1).val % 16, by omega⟩ ⟨1024 * ((i 0).val / 128) + (128 * ((i 1).val / 16) + (i 0).val % 128), by
    have h0 : (i 0).val < 512 := (i 0).isLt; have h1 : (i 1).val < 128 := (i 1).isLt; omega⟩)

/-- The block of the table of `dy`: entry `(r, l)` is column `l mod 32` of node `1024·(r / 256) + 256·(l / 32) + r mod 256`. -/
def wordBlock (W : IVec S32x4096 32) : IVec S1024x128 32 := fun i =>
  W (ix2 ⟨(i 1).val % 32, by omega⟩ ⟨1024 * ((i 0).val / 256) + (256 * ((i 1).val / 32) + (i 0).val % 256), by
    have h0 : (i 0).val < 1024 := (i 0).isLt; have h1 : (i 1).val < 128 := (i 1).isLt; omega⟩)

/-- A store of a code tile writes its rows of the block. -/
theorem code_at (A : FVec Bits S16x4096 .f32) (m : Fin 4) (off : Fin 2 → ℕ) (ho : off = ![128 * m.val, 0]) (inb) (x : S128x128.Idx) :
    tile A m x = codeBlock A ((Rect.unit (s := S512x128) off S128x128.size inb).emb x) := by
  subst ho
  have h0 : (x 0).val < 128 := (x 0).isLt
  have e0 : ((Rect.unit (s := S512x128) ![128 * m.val, 0] S128x128.size inb).emb x 0).val = 128 * m.val + (x 0).val :=
    Rect.idx_unit_val (s := S512x128) _ _ inb x 0
  have e1 : ((Rect.unit (s := S512x128) ![128 * m.val, 0] S128x128.size inb).emb x 1).val = 0 + (x 1).val :=
    Rect.idx_unit_val (s := S512x128) _ _ inb x 1
  unfold tile codeBlock
  refine congrArg A (congrArg₂ ix2 (Fin.ext ?_) (Fin.ext ?_))
  · show (x 1).val % 16 = _ % 16
    rw [e1]; omega
  · show 1024 * m.val + (128 * ((x 1).val / 16) + (x 0).val) = 1024 * (_ / 128) + (128 * (_ / 16) + _ % 128)
    rw [e0, e1]; omega

/-- A store of a tile of packed words writes its rows of the block. -/
theorem word_at (W : IVec S32x4096 32) (m : Fin 4) (off : Fin 2 → ℕ) (ho : off = ![256 * m.val, 0]) (inb) (x : S256x128.Idx) :
    wideTile W m x = wordBlock W ((Rect.unit (s := S1024x128) off S256x128.size inb).emb x) := by
  subst ho
  have h0 : (x 0).val < 256 := (x 0).isLt
  have e0 : ((Rect.unit (s := S1024x128) ![256 * m.val, 0] S256x128.size inb).emb x 0).val = 256 * m.val + (x 0).val :=
    Rect.idx_unit_val (s := S1024x128) _ _ inb x 0
  have e1 : ((Rect.unit (s := S1024x128) ![256 * m.val, 0] S256x128.size inb).emb x 1).val = 0 + (x 1).val :=
    Rect.idx_unit_val (s := S1024x128) _ _ inb x 1
  unfold wideTile wordBlock
  refine congrArg W (congrArg₂ ix2 (Fin.ext ?_) (Fin.ext ?_))
  · show (x 1).val % 32 = _ % 32
    rw [e1]; omega
  · show 1024 * m.val + (256 * ((x 1).val / 32) + (x 0).val) = 1024 * (_ / 256) + (256 * (_ / 32) + _ % 256)
    rw [e0, e1]; omega

/-- The four stores leave the block of the code table. -/
theorem out_codes (x0 : Vec Bits S3x4096 .i8) (x1 x2 : Vec Bits S1x4096 .f32) (x3 : Vec Bits S47x4096 .bf16) :
    out0_4 (F := Bits) x0 x1 x2 x3 = codeBlock (k0_pay5 (F := Bits) x0 x1 x2) := by
  have l0 : View.ld x0 r0_0 = x0 := View.ld_unit_zero (S := S3x4096) (by decide) _ x0
  have l1 : View.ld x1 r0_1 = x1 := View.ld_unit_zero (S := S1x4096) (by decide) _ x1
  have l2 : View.ld x2 r0_1 = x2 := View.ld_unit_zero (S := S1x4096) (by decide) _ x2
  unfold out0_4
  rw [tile_first, tile_second, tile_third, tile_fourth]
  unfold k0_pay19
  rw [l0, l1, l2]
  funext y
  refine View.canon_apply_of_pieces (Val := Elt Bits) (codeBlock (k0_pay5 (F := Bits) x0 x1 x2)) _ (fun p hp x => ?_) y (cover0_4 (F := Bits) _ _ _ _ y)
  simp only [List.mem_cons, List.not_mem_nil, or_false] at hp
  rcases hp with rfl | rfl | rfl | rfl
  · exact code_at (k0_pay5 (F := Bits) x0 x1 x2) 3 ![384, 0] rfl inb_S512x128_S128x128_384_0 x
  · exact code_at (k0_pay5 (F := Bits) x0 x1 x2) 2 ![256, 0] rfl inb_S512x128_S128x128_256_0 x
  · exact code_at (k0_pay5 (F := Bits) x0 x1 x2) 1 ![128, 0] rfl inb_S512x128_S128x128_128_0 x
  · exact code_at (k0_pay5 (F := Bits) x0 x1 x2) 0 ![0, 0] rfl inb_S512x128_S128x128_0_0 x

/-- The four stores leave the block of the table of `dy`. -/
theorem out_words (x0 : Vec Bits S3x4096 .i8) (x1 x2 : Vec Bits S1x4096 .f32) (x3 : Vec Bits S47x4096 .bf16) :
    out0_5 (F := Bits) x0 x1 x2 x3 = wordBlock (k0_pay9 (k0_pay6 (F := Bits) x3) (k0_pay7 (F := Bits) x3) (k0_pay8 (F := Bits) x3)) := by
  have l3 : View.ld x3 r0_2 = x3 := View.ld_unit_zero (S := S47x4096) (by decide) _ x3
  unfold out0_5
  rw [wide_first, wide_second, wide_third, wide_fourth]
  unfold k0_pay23 k0_pay20 k0_pay21 k0_pay22
  rw [l3]
  funext y
  refine View.canon_apply_of_pieces (Val := Elt Bits) (wordBlock (k0_pay9 (k0_pay6 (F := Bits) x3) (k0_pay7 (F := Bits) x3) (k0_pay8 (F := Bits) x3)))
    _ (fun p hp x => ?_) y (cover0_5 (F := Bits) _ _ _ _ y)
  simp only [List.mem_cons, List.not_mem_nil, or_false] at hp
  rcases hp with rfl | rfl | rfl | rfl
  · exact word_at (k0_pay9 (k0_pay6 (F := Bits) x3) (k0_pay7 (F := Bits) x3) (k0_pay8 (F := Bits) x3)) 3 ![768, 0] rfl inb_S1024x128_S256x128_768_0 x
  · exact word_at (k0_pay9 (k0_pay6 (F := Bits) x3) (k0_pay7 (F := Bits) x3) (k0_pay8 (F := Bits) x3)) 2 ![512, 0] rfl inb_S1024x128_S256x128_512_0 x
  · exact word_at (k0_pay9 (k0_pay6 (F := Bits) x3) (k0_pay7 (F := Bits) x3) (k0_pay8 (F := Bits) x3)) 1 ![256, 0] rfl inb_S1024x128_S256x128_256_0 x
  · exact word_at (k0_pay9 (k0_pay6 (F := Bits) x3) (k0_pay7 (F := Bits) x3) (k0_pay8 (F := Bits) x3)) 0 ![0, 0] rfl inb_S1024x128_S256x128_0_0 x

end Cert.Proof.PrepBlock

end
-- ==== Proof.PrepArray.lean ====
/-
  WHAT THE ARRAYS OF `prep` HOLD after the run: the code table is `codeTable` of the packed codes, the scales and the offsets,
  and the table of `dy` is `wordTable` of `dy`, bit for bit.
-/
module

public import proofs.«01_k».proof.Proof.PrepBlock
public import proofs.«01_k».proof.Proof.Gen.Prep.Value
public import Idealize.ShloMosaic.Lib.Claim

@[expose] public section

set_option maxRecDepth 16384

noncomputable section

namespace Cert.Proof.PrepArray

open Idealize.ShloMosaic hiding ix1 ix2 ix3 ix4 ix5 eq_ix1 eq_ix2 eq_ix3 eq_ix4 eq_ix5
open Idealize.ShloMosaic.ValueIdx Idealize.ShloMosaic.TcCoe
open Idealize.ShloMosaic.Pipeline (Dat)
open Cert.Prep Cert.Prep.Gen Cert.Proof.PrepBlock

/-- The node of entry `(r, l)` of the code table: 1024 nodes to 128 rows, eight to a row. -/
def codeNode (r : Fin 24576) (l : Fin 128) : Fin 196608 := ⟨1024 * (r.val / 128) + (128 * (l.val / 16) + r.val % 128), by omega⟩

/-- The node of entry `(r, l)` of the table of `dy`: 1024 nodes to 256 rows, four to a row. -/
def wordNode (r : Fin 49152) (l : Fin 128) : Fin 196608 := ⟨1024 * (r.val / 256) + (256 * (l.val / 32) + r.val % 256), by omega⟩

/-- The code table, entry by entry. -/
def codeTable (z : IVec S196608x3 8) (s o : FVec Bits S196608 .f32) : FVec Bits S24576x128 .f32 := fun i =>
  node (fun a => z (ix2 (codeNode (i 0) (i 1)) a)) (s (ix1 (codeNode (i 0) (i 1)))) (o (ix1 (codeNode (i 0) (i 1))))
    ⟨(i 1).val % 16, by omega⟩

/-- The table of `dy`, entry by entry. -/
def wordTable (d : FVec Bits S196608x47 .bf16) : IVec S49152x128 32 := fun i =>
  word (fun a => d (ix2 (wordNode (i 0) (i 1)) a)) ⟨(i 1).val % 32, by omega⟩

variable (m : (ℓ : Loc nD τ sig) → Buf (Elt Bits) ℓ)

/-- The windows' index maps, at every grid point. -/
theorem idx : ∀ t : Fin cfg0.N, win0_0.index t = ![0, t.val] ∧ win0_1.index t = ![0, t.val] ∧ win0_2.index t = ![0, t.val]
    ∧ win0_3.index t = ![0, t.val] ∧ win0_4.index t = ![t.val, 0] ∧ win0_5.index t = ![t.val, 0] :=
  (by decide +kernel : ∀ t : Fin grid0.N, win0_0.index t = ![0, t.val] ∧ win0_1.index t = ![0, t.val] ∧ win0_2.index t = ![0, t.val]
    ∧ win0_3.index t = ![0, t.val] ∧ win0_4.index t = ![t.val, 0] ∧ win0_5.index t = ![t.val, 0])

/-- The packed codes as the region finds them: transposed. -/
theorem V_codes (c : Dev nD) (a : Fin 3) (n : Fin 196608) :
    (V m c main_v0 : IVec S3x196608 8) (ix2 a n) = (m ((c : Thread nD τ).loc main_arg0) : IVec S196608x3 8) (ix2 n a) := by
  show StableHlo.after hostOps0 (fun b => m (c, b)) (Proc.tc.devRef main_v0) _ = _
  simp only [hostOps0]
  after_results
  exact transpose_apply _ _ _ _ _ (fun b => match b with | ⟨0, _⟩ => rfl | ⟨1, _⟩ => rfl)

/-- `dy` as the region finds it: transposed. -/
theorem V_dy (c : Dev nD) (a : Fin 47) (n : Fin 196608) :
    (V m c main_v1 : FVec Bits S47x196608 .bf16) (ix2 a n) = (m ((c : Thread nD τ).loc main_arg3) : FVec Bits S196608x47 .bf16) (ix2 n a) := by
  show StableHlo.after hostOps0 (fun b => m (c, b)) (Proc.tc.devRef main_v1) _ = _
  simp only [hostOps0]
  after_results
  exact transpose_apply _ _ _ _ _ (fun b => match b with | ⟨0, _⟩ => rfl | ⟨1, _⟩ => rfl)

/-- The scales as the region finds them: one row. -/
theorem V_scale (c : Dev nD) (n : Fin 196608) :
    (V m c main_v2 : FVec Bits S1x196608 .f32) (ix2 0 n) = (m ((c : Thread nD τ).loc main_arg1) : FVec Bits S196608 .f32) (ix1 n) := by
  show StableHlo.after hostOps0 (fun b => m (c, b)) (Proc.tc.devRef main_v2) _ = _
  simp only [hostOps0]
  after_results
  refine shapeCast_apply _ _ _ _ ?_
  show (S196608.rowMajor (ix1 _)).val = (S1x196608.rowMajor (ix2 0 n)).val
  rw [Shape.rowMajor_val_one, Shape.rowMajor_val_two]
  show n.val = 0 * 196608 + n.val
  omega

/-- The offsets as the region finds them: one row. -/
theorem V_offset (c : Dev nD) (n : Fin 196608) :
    (V m c main_v3 : FVec Bits S1x196608 .f32) (ix2 0 n) = (m ((c : Thread nD τ).loc main_arg2) : FVec Bits S196608 .f32) (ix1 n) := by
  show StableHlo.after hostOps0 (fun b => m (c, b)) (Proc.tc.devRef main_v3) _ = _
  simp only [hostOps0]
  after_results
  refine shapeCast_apply _ _ _ _ ?_
  show (S196608.rowMajor (ix1 _)).val = (S1x196608.rowMajor (ix2 0 n)).val
  rw [Shape.rowMajor_val_one, Shape.rowMajor_val_two]
  show n.val = 0 * 196608 + n.val
  omega

/-- Node `q` of the point `t`. -/
def place (t : Fin cfg0.N) (q : Fin 4096) : Fin 196608 := ⟨4096 * t.val + q.val, by have h : t.val < 48 := t.isLt; omega⟩

/-- Window 0's block at point `t`. -/
theorem codes_block (c : Dev nD) (t : Fin cfg0.N) (a : Fin 3) (q : Fin 4096) :
    (iblk m c 0 t : IVec S3x4096 8) (ix2 a q) = (m ((c : Thread nD τ).loc main_arg0) : IVec S196608x3 8) (ix2 (place t q) a) := by
  have e : ((cfg0.win 0).blk t).view.emb (ix2 a q) = (ix2 a (place t q) : S3x196608.Idx) := by
    blk_ext [idx t]
    show t.val * 4096 + q.val = 4096 * t.val + q.val; omega
  show V m c main_v0 (((cfg0.win 0).blk t).view.emb (ix2 a q)) = _
  rw [e]
  exact V_codes m c a _

/-- Window 1's block at point `t`. -/
theorem scale_block (c : Dev nD) (t : Fin cfg0.N) (q : Fin 4096) :
    (iblk m c 1 t : FVec Bits S1x4096 .f32) (ix2 0 q) = (m ((c : Thread nD τ).loc main_arg1) : FVec Bits S196608 .f32) (ix1 (place t q)) := by
  have e : ((cfg0.win 1).blk t).view.emb (ix2 0 q) = (ix2 0 (place t q) : S1x196608.Idx) := by
    blk_ext [idx t]
    show t.val * 4096 + q.val = 4096 * t.val + q.val; omega
  show V m c main_v2 (((cfg0.win 1).blk t).view.emb (ix2 0 q)) = _
  rw [e]
  exact V_scale m c _

/-- Window 2's block at point `t`. -/
theorem offset_block (c : Dev nD) (t : Fin cfg0.N) (q : Fin 4096) :
    (iblk m c 2 t : FVec Bits S1x4096 .f32) (ix2 0 q) = (m ((c : Thread nD τ).loc main_arg2) : FVec Bits S196608 .f32) (ix1 (place t q)) := by
  have e : ((cfg0.win 2).blk t).view.emb (ix2 0 q) = (ix2 0 (place t q) : S1x196608.Idx) := by
    blk_ext [idx t]
    show t.val * 4096 + q.val = 4096 * t.val + q.val; omega
  show V m c main_v3 (((cfg0.win 2).blk t).view.emb (ix2 0 q)) = _
  rw [e]
  exact V_offset m c _

/-- Window 3's block at point `t`. -/
theorem dy_block (c : Dev nD) (t : Fin cfg0.N) (a : Fin 47) (q : Fin 4096) :
    (iblk m c 3 t : FVec Bits S47x4096 .bf16) (ix2 a q) = (m ((c : Thread nD τ).loc main_arg3) : FVec Bits S196608x47 .bf16) (ix2 (place t q) a) := by
  have e : ((cfg0.win 3).blk t).view.emb (ix2 a q) = (ix2 a (place t q) : S47x196608.Idx) := by
    blk_ext [idx t]
    show t.val * 4096 + q.val = 4096 * t.val + q.val; omega
  show V m c main_v1 (((cfg0.win 3).blk t).view.emb (ix2 a q)) = _
  rw [e]
  exact V_dy m c a _

/-- THE CODE TABLE: after the run the first result array is `codeTable` of the arguments. -/
theorem final_codes (c : Dev nD) :
    (dats m 0 c).arrAt 4 cfg0.N = codeTable (m ((c : Thread nD τ).loc main_arg0)) (m ((c : Thread nD τ).loc main_arg1))
      (m ((c : Thread nD τ).loc main_arg2)) := by
  refine (dats m 0 c).arrAt_eq_of_covers 4 _ (by decide +kernel) fun t _ y => ?_
  have ht : t.val < 48 := t.isLt
  obtain ⟨r, l, rfl⟩ : ∃ (r : Fin 512) (l : Fin 128), y = ix2 r l := ⟨y 0, y 1, eq_ix2 y⟩
  have e : ((cfg0.win 4).blk t).view.emb (ix2 r l) = (ix2 ⟨512 * t.val + r.val, by omega⟩ l : S24576x128.Idx) := by
    blk_ext [idx t]
    show t.val * 512 + r.val = _; omega
  blk_simp
  rw [after0_4, out_codes]
  show codeBlock (k0_pay5 (F := Bits) (iblk m c 0 t) (iblk m c 1 t) (iblk m c 2 t)) (ix2 r l) = codeTable _ _ _ (((cfg0.win 4).blk t).view.emb (ix2 r l))
  rw [e]
  unfold codeBlock codeTable
  have hn : place t ⟨1024 * (r.val / 128) + (128 * (l.val / 16) + r.val % 128), by omega⟩ = codeNode ⟨512 * t.val + r.val, by omega⟩ l :=
    Fin.ext (by
      show 4096 * t.val + (1024 * (r.val / 128) + (128 * (l.val / 16) + r.val % 128))
        = 1024 * ((512 * t.val + r.val) / 128) + (128 * (l.val / 16) + (512 * t.val + r.val) % 128)
      omega)
  refine (decoded _ _ _ ⟨l.val % 16, by omega⟩ ⟨1024 * (r.val / 128) + (128 * (l.val / 16) + r.val % 128), by omega⟩).trans ?_
  rw [scale_block, offset_block, funext fun a => codes_block m c t a _, hn]

/-- THE TABLE OF `dy`: after the run the second result array is `wordTable` of `dy`. -/
theorem final_words (c : Dev nD) : (dats m 0 c).arrAt 5 cfg0.N = wordTable (m ((c : Thread nD τ).loc main_arg3)) := by
  refine (dats m 0 c).arrAt_eq_of_covers 5 _ (by decide +kernel) fun t _ y => ?_
  have ht : t.val < 48 := t.isLt
  obtain ⟨r, l, rfl⟩ : ∃ (r : Fin 1024) (l : Fin 128), y = ix2 r l := ⟨y 0, y 1, eq_ix2 y⟩
  have e : ((cfg0.win 5).blk t).view.emb (ix2 r l) = (ix2 ⟨1024 * t.val + r.val, by omega⟩ l : S49152x128.Idx) := by
    blk_ext [idx t]
    show t.val * 1024 + r.val = _; omega
  blk_simp
  rw [after0_5, out_words]
  show wordBlock (k0_pay9 (k0_pay6 (F := Bits) (iblk m c 3 t)) (k0_pay7 (F := Bits) (iblk m c 3 t)) (k0_pay8 (F := Bits) (iblk m c 3 t)))
    (ix2 r l) = wordTable _ (((cfg0.win 5).blk t).view.emb (ix2 r l))
  rw [e]
  unfold wordBlock wordTable
  have hn : place t ⟨1024 * (r.val / 256) + (256 * (l.val / 32) + r.val % 256), by omega⟩ = wordNode ⟨1024 * t.val + r.val, by omega⟩ l :=
    Fin.ext (by
      show 4096 * t.val + (1024 * (r.val / 256) + (256 * (l.val / 32) + r.val % 256))
        = 1024 * ((1024 * t.val + r.val) / 256) + (256 * (l.val / 32) + (1024 * t.val + r.val) % 256)
      omega)
  refine (packed _ ⟨l.val % 32, by omega⟩ ⟨1024 * (r.val / 256) + (256 * (l.val / 32) + r.val % 256), by omega⟩).trans ?_
  rw [funext fun a => dy_block m c t a _, hn]

end Cert.Proof.PrepArray

end
-- ==== Proof.PrepEquation.lean ====
/-
  THE REFERENCE OF `prep`: its two results are `codeTable` and `wordTable` of its arguments, bit for bit.
-/
module

public import proofs.«01_k».proof.Proof.PrepArray
public import proofs.«01_k».proof.Proof.Gen.PrepReference.Read
public import Idealize.ShloMosaic.Lib.KernelVsHost

@[expose] public section

set_option maxRecDepth 16384

noncomputable section

namespace Cert.Proof.PrepEquation

open Idealize.ShloMosaic hiding ix1 ix2 ix3 ix4 ix5 eq_ix1 eq_ix2 eq_ix3 eq_ix4 eq_ix5
open Idealize.ShloMosaic.ValueIdx Idealize.ShloMosaic.TcCoe
open Cert.PrepReference Cert.PrepReference.Gen Cert.PrepReference.Read
open Cert.Proof.PrepBlock Cert.Proof.PrepArray

/-- The reference's code `j` of node `n`. -/
theorem ref_code (z : IVec S196608x3 8) (n : Fin 196608) (j : Fin 12) :
    val_main_v13 (F := Bits) z (ix2 n j) = code (fun a => z (ix2 n a)) j := by
  rw [val_main_v13_apply, val_main_v11_apply, val_main_v8_apply, val_main_v7_apply, val_main_v6_apply, val_main_v10_apply, val_main_v9_apply,
    val_main_v5_apply, val_main_v4_apply, val_main_v3_apply, val_main_v2_apply, val_main_v1_apply, val_main_c_apply, val_main_v0_apply,
    val_main_v12_apply, val_main_c_0_apply]
  unfold code
  refine congrArg (fun b : BitVec 32 => IntOp.andi b 3#32) ((shrsi_unit .host .vector _ _).trans ?_)
  refine congrArg₂ (fun a b : BitVec 32 => IntOp.shrsi .vector a b) ?_ ?_
  · refine congrArg (fun b : BitVec 8 => b.setWidth 32) (congrArg z ((eq_ix2 _).trans (congrArg₂ ix2 (Fin.ext ?_) (Fin.ext ?_))))
    · show (n.val * 12 + j.val) / 12 = n.val; omega
    · show (n.val * 12 + j.val) / 4 % 3 = j.val / 4; omega
  · refine congrArg (fun b : BitVec 32 => IntOp.muli b 2#32) ?_
    show BitVec.ofNat 32 (0 * 4 + j.val % 4) = IntOp.andi (BitVec.ofNat 32 j.val) 3#32
    revert j; decide

/-- The reference's code table before it is laid out. -/
theorem ref_node (z : IVec S196608x3 8) (s o : FVec Bits S196608 .f32) (n : Fin 196608) (j : Fin 16) :
    val_main_v21 (F := Bits) z s o (ix2 n j) = node (fun a => z (ix2 n a)) (s (ix1 n)) (o (ix1 n)) j := by
  unfold val_main_v21 node
  refine (Lanes.pad_columns (M := 196608) (K := 12) (e := 4) _ _ _ _ n j).trans ?_
  by_cases h : j.val < 12
  · rw [dif_pos h, dif_pos h, val_main_v20_apply, val_main_v17_apply, val_main_v16_apply, val_main_v15_apply, val_main_v14_apply,
      val_main_v19_apply, val_main_v18_apply, ref_code, eq_ix1 (idx_main_v15 _), eq_ix1 (idx_main_v18 _)]
    rfl
  · rw [dif_neg h, dif_neg h]
    rfl

/-- The reference's bits of `dy`. -/
theorem ref_bits (d : FVec Bits S196608x47 .bf16) (n : Fin 196608) (k : Fin 48) :
    val_main_v24 (F := Bits) d (ix2 n k) = bits (fun a => d (ix2 n a)) k := by
  rw [val_main_v24_apply]
  unfold val_main_v23 bits
  refine congrArg (fun b : Bits .f32 => BitOps.toBits b) ((Lanes.pad_columns (M := 196608) (K := 47) (e := 1) _ _ _ _ n k).trans ?_)
  by_cases h : k.val < 47
  · rw [dif_pos h, dif_pos h, val_main_v22_apply]
  · rw [dif_neg h, dif_neg h]
    rfl

/-- The reference's table of `dy` before it is laid out. -/
theorem ref_word (d : FVec Bits S196608x47 .bf16) (n : Fin 196608) (k : Fin 32) :
    val_main_v31 (F := Bits) d (ix2 n k) = word (fun a => d (ix2 n a)) k := by
  unfold val_main_v31 word
  by_cases h : k.val < 16
  · rw [dif_pos h]
    refine (concatenate_pair_apply_left (t := S196608x32) (s₁ := S196608x16) (s₂ := S196608x16) 1 _ _ _ (ix2 n k) rfl (ix2 n ⟨k.val, h⟩)
      (fun b => match b with | ⟨0, _⟩ => rfl | ⟨1, _⟩ => rfl)).trans ?_
    rw [val_main_v29_apply, val_main_v27_apply, val_main_v25_apply, val_main_v28_apply, val_main_v26_apply, val_main_c_2_apply]
    refine congrArg₂ (fun a b : BitVec 32 => IntOp.ori a b) ((shrui_unit .host .vector _ _).trans
      (congrArg (fun a : BitVec 32 => IntOp.shrui .vector a 16#32) ?_)) ?_
    · exact (congrArg (val_main_v24 (F := Bits) d) (eq_ix2 _)).trans (ref_bits d n ⟨k.val, by omega⟩)
    · exact (congrArg (val_main_v24 (F := Bits) d) (eq_ix2 _)).trans (ref_bits d n ⟨16 + k.val, by omega⟩)
  · rw [dif_neg h]
    refine (concatenate_pair_apply_right (t := S196608x32) (s₁ := S196608x16) (s₂ := S196608x16) 1 _ _ _ (ix2 n k) rfl rfl
      (ix2 n ⟨k.val - 16, by omega⟩) (fun b hb => match b with | ⟨0, _⟩ => rfl | ⟨1, _⟩ => absurd rfl hb)
      (by show k.val - 16 + 16 = k.val; omega)).trans ?_
    rw [val_main_v30_apply]
    refine (congrArg (val_main_v24 (F := Bits) d) ?_).trans (ref_bits d n ⟨16 + k.val, by omega⟩)
    funext a
    match a with
    | ⟨0, _⟩ => rfl
    | ⟨1, _⟩ => exact Fin.ext (by show 32 + (k.val - 16) = 16 + k.val; omega)

/-- THE REFERENCE'S CODE TABLE. -/
theorem ref_codes (z : IVec S196608x3 8) (s o : FVec Bits S196608 .f32) : val_main_v34 (F := Bits) z s o = codeTable z s o := funext fun i => by
  obtain ⟨r, l, rfl⟩ : ∃ (r : Fin 24576) (l : Fin 128), i = ix2 r l := ⟨i 0, i 1, eq_ix2 i⟩
  rw [val_main_v34_apply, val_main_v33_apply, val_main_v32_apply]
  refine (congrArg (val_main_v21 (F := Bits) z s o) ?_).trans (ref_node z s o (codeNode r l) ⟨l.val % 16, by omega⟩)
  refine (eq_ix2 _).trans (congrArg₂ ix2 (Fin.ext ?_) (Fin.ext ?_))
  · show (((((r.val * 128 + l.val) / 16384) * 8 + (r.val * 128 + l.val) / 16 % 8) * 128 + (r.val * 128 + l.val) / 128 % 128) * 16
      + (r.val * 128 + l.val) % 16) / 16 = 1024 * (r.val / 128) + (128 * (l.val / 16) + r.val % 128)
    omega
  · show (((((r.val * 128 + l.val) / 16384) * 8 + (r.val * 128 + l.val) / 16 % 8) * 128 + (r.val * 128 + l.val) / 128 % 128) * 16
      + (r.val * 128 + l.val) % 16) % 16 = l.val % 16
    omega

/-- THE REFERENCE'S TABLE OF `dy`. -/
theorem ref_words (d : FVec Bits S196608x47 .bf16) : val_main_v37 (F := Bits) d = wordTable d := funext fun i => by
  obtain ⟨r, l, rfl⟩ : ∃ (r : Fin 49152) (l : Fin 128), i = ix2 r l := ⟨i 0, i 1, eq_ix2 i⟩
  rw [val_main_v37_apply, val_main_v36_apply, val_main_v35_apply]
  refine (congrArg (val_main_v31 (F := Bits) d) ?_).trans (ref_word d (wordNode r l) ⟨l.val % 32, by omega⟩)
  refine (eq_ix2 _).trans (congrArg₂ ix2 (Fin.ext ?_) (Fin.ext ?_))
  · show (((((r.val * 128 + l.val) / 32768) * 4 + (r.val * 128 + l.val) / 32 % 4) * 256 + (r.val * 128 + l.val) / 128 % 256) * 32
      + (r.val * 128 + l.val) % 32) / 32 = 1024 * (r.val / 256) + (256 * (l.val / 32) + r.val % 256)
    omega
  · show (((((r.val * 128 + l.val) / 32768) * 4 + (r.val * 128 + l.val) / 32 % 4) * 256 + (r.val * 128 + l.val) / 128 % 256) * 32
      + (r.val * 128 + l.val) % 32) % 32 = l.val % 32
    omega

end Cert.Proof.PrepEquation

end
-- ==== Proof.PrepClaims.lean ====
/-
  THE CLAIMS of `prep` that are not the generated frame: the reference's frame and the equality of the results, bit for bit.
-/
module

public import proofs.«01_k».proof.Defs
public import proofs.«01_k».proof.Proof.PrepEquation
public import proofs.«01_k».proof.Proof.Gen.Prep.Value
public import proofs.«01_k».proof.Proof.Gen.PrepReference.Run

@[expose] public section

set_option maxRecDepth 16384

noncomputable section

namespace Cert.Proof.PrepClaims

open Idealize.ShloMosaic Idealize.ShloMosaic.TcCoe Idealize.SL.Sem

/-- The reference declares no semaphore, so its counters read zero. -/
theorem no_counters (s : Idealize.ShloMosaic.GSem Cert.PrepReference.nD Cert.PrepReference.τ Cert.PrepReference.sig → ℤ) : s = fun _ => 0 := by
  funext g
  match g with
  | (_, .reg s) => exact Fin.elim0 s
  | (_, .dma s) => exact Fin.elim0 s

/-- The reference's frame. -/
theorem reference_frame : Cert.quiescent_PrepReference := fun m g _ =>
  (θ_run _ _ _).mono (fun r h => ⟨fun c => (h c).2.2, no_counters _⟩) (Cert.PrepReference.Value.run (F := Bits) m g)

/-- The two programs' results are equal, bit for bit. -/
theorem bitexact : Cert.bitexact_Prep_PrepReference := fun m g m' g' _ heq => by
  refine ⟨fun c => PrepArray.codeTable (m ((c.tc : Thread Cert.Prep.nD Cert.Prep.τ).loc Cert.Prep.main_arg0))
      (m ((c.tc : Thread Cert.Prep.nD Cert.Prep.τ).loc Cert.Prep.main_arg1))
      (m ((c.tc : Thread Cert.Prep.nD Cert.Prep.τ).loc Cert.Prep.main_arg2)),
    fun c => PrepArray.wordTable (m ((c.tc : Thread Cert.Prep.nD Cert.Prep.τ).loc Cert.Prep.main_arg3)), ?_, ?_⟩
  · exact (θ_run _ _ _).mono (fun r h c => ⟨(h c).1.trans (PrepArray.final_codes m c),
      (h c).2.1.trans (PrepArray.final_words m c), (h c).2.2⟩) (Cert.Prep.Value.run_blocks (F := Bits) m g)
  · refine (θ_run _ _ _).mono (fun r h c => ?_) (Cert.PrepReference.Value.run (F := Bits) m' g')
    obtain ⟨h0, h1, h2, h3⟩ := heq c
    refine ⟨(h c).1.trans ((Cert.PrepReference.Read.val_main_v34_eq _ _ _).trans ((PrepEquation.ref_codes _ _ _).trans ?_)),
      (h c).2.1.trans ((Cert.PrepReference.Read.val_main_v37_eq _).trans ((PrepEquation.ref_words _).trans ?_)), (h c).2.2⟩
    · rw [h0, h1, h2]
    · rw [h3]

end Cert.Proof.PrepClaims

end
-- ==== Proof.DhBlock.lean ====
/-
  WHAT ONE BLOCK OF `dh_tail` COMPUTES, over the extended reals. A grid point reads a block `x0` of the three tables (512 rows
  of 128 lanes of each) and the weights `x1`, and stores four blocks of 1024 columns. `blockE x0 x1` is that point's whole
  result, index by index: a sum over the 48 table columns. `out_eq` says that the body leaves exactly this when every entry
  of the block is finite.
-/
module

public import Idealize.ShloMosaic.Lib.Pipeline.ValueKit.Tiles
public import proofs.«01_k».proof.Proof.Lanes
public import proofs.«01_k».proof.Proof.Gen.DhTailIdeal.Frame

@[expose] public section

set_option maxRecDepth 16384

noncomputable section

namespace Cert.Proof.DhBlock

open Idealize.ShloMosaic Idealize.ShloMosaic.ValueIdx Idealize.ShloMosaic.TcCoe
open Cert.DhTailIdeal Cert.DhTailIdeal.Gen
open Cert.Proof.Lanes (Fin3)
open scoped BigOperators

/-- Three tiles stacked: row `16·a + j`, column `128·g + r` is lane `16·g + j` of row `r` of tile `a`. -/
theorem rows_apply (a b c : Vec Ideal S1x128x128 .f32) (k : Fin 48) (q : Fin 1024) :
    k0_pay5 (F := Ideal) a b c (ix2 k q)
      = (![a, b, c] : Fin 3 → Vec Ideal S1x128x128 .f32) ⟨k.val / 16, by omega⟩
          (ix3 0 ⟨q.val % 128, by omega⟩ ⟨16 * (q.val / 128) + k.val % 16, by omega⟩) := by
  let wide : Vec Ideal S1x128x128 .f32 → FVec Ideal S16x1024 .f32 := fun v =>
    concatenate S16x1024 1 [⟨S16x128, extractStridedSlice S16x128 ![0, 0] (transpose S128x128 [1, 0] (shapeCast S128x128 v shapeCasts_S1x128x128_S128x128) transposes_S128x128_p1_0_S128x128) slices_S128x128_o0_0_S16x128⟩,
      ⟨S16x128, extractStridedSlice S16x128 ![16, 0] (transpose S128x128 [1, 0] (shapeCast S128x128 v shapeCasts_S1x128x128_S128x128) transposes_S128x128_p1_0_S128x128) slices_S128x128_o16_0_S16x128⟩,
      ⟨S16x128, extractStridedSlice S16x128 ![32, 0] (transpose S128x128 [1, 0] (shapeCast S128x128 v shapeCasts_S1x128x128_S128x128) transposes_S128x128_p1_0_S128x128) slices_S128x128_o32_0_S16x128⟩,
      ⟨S16x128, extractStridedSlice S16x128 ![48, 0] (transpose S128x128 [1, 0] (shapeCast S128x128 v shapeCasts_S1x128x128_S128x128) transposes_S128x128_p1_0_S128x128) slices_S128x128_o48_0_S16x128⟩,
      ⟨S16x128, extractStridedSlice S16x128 ![64, 0] (transpose S128x128 [1, 0] (shapeCast S128x128 v shapeCasts_S1x128x128_S128x128) transposes_S128x128_p1_0_S128x128) slices_S128x128_o64_0_S16x128⟩,
      ⟨S16x128, extractStridedSlice S16x128 ![80, 0] (transpose S128x128 [1, 0] (shapeCast S128x128 v shapeCasts_S1x128x128_S128x128) transposes_S128x128_p1_0_S128x128) slices_S128x128_o80_0_S16x128⟩,
      ⟨S16x128, extractStridedSlice S16x128 ![96, 0] (transpose S128x128 [1, 0] (shapeCast S128x128 v shapeCasts_S1x128x128_S128x128) transposes_S128x128_p1_0_S128x128) slices_S128x128_o96_0_S16x128⟩,
      ⟨S16x128, extractStridedSlice S16x128 ![112, 0] (transpose S128x128 [1, 0] (shapeCast S128x128 v shapeCasts_S1x128x128_S128x128) transposes_S128x128_p1_0_S128x128) slices_S128x128_o112_0_S16x128⟩]
      concatenates_S16x128_S16x128_S16x128_S16x128_S16x128_S16x128_S16x128_S16x128_S16x1024_d1
  have hw : ∀ v (j : Fin 16), wide v (ix2 j q) = v (ix3 0 ⟨q.val % 128, by omega⟩ ⟨16 * (q.val / 128) + j.val, by omega⟩) :=
    fun v j => Lanes.lanes_apply v _ _ _ _ _ _ _ _ _ _ _ j q
  have key := concatenate_ofFn_apply (t := S48x1024) (s₁ := S16x1024) 0 (N := 3)
    (fun n => wide ((![a, b, c] : Fin 3 → Vec Ideal S1x128x128 .f32) n)) concatenates_S16x1024_S16x1024_S16x1024_S48x1024_d0 rfl 16 rfl
    (ix2 k q) ⟨k.val / 16, by omega⟩ rfl (ix2 ⟨k.val % 16, by omega⟩ q) rfl (fun b hb => match b with
      | ⟨0, _⟩ => absurd rfl hb
      | ⟨1, _⟩ => rfl)
  refine Eq.trans ?_ (key.trans (hw _ _))
  rfl

/-- The product of one 1024-column block, as the first block's text spells it. -/
def prod (a b c : Vec Ideal S1x128x128 .f32) (w : Vec Ideal S96x144 .bf16) : FVec Ideal S96x1024 .f32 :=
  k0_pay4 (k0_pay2 w) (k0_pay3 a b c) (constant S96x1024 .f32 0x00000000#32)

/-- The other three blocks' texts are the same product. -/
theorem prod_second (a b c : Vec Ideal S1x128x128 .f32) (w : Vec Ideal S96x144 .bf16) :
    k0_pay11 (F := Ideal) (k0_pay6 w) (k0_pay7 a b c) (k0_pay8 a b c) (k0_pay9 a b c) (k0_pay10 a b c) = prod a b c w := rfl
theorem prod_third (a b c : Vec Ideal S1x128x128 .f32) (w : Vec Ideal S96x144 .bf16) :
    k0_pay15 (F := Ideal) (k0_pay12 a b c) (k0_pay13 w) (k0_pay14 a b c) = prod a b c w := rfl
theorem prod_fourth (a b c : Vec Ideal S1x128x128 .f32) (w : Vec Ideal S96x144 .bf16) :
    k0_pay1 (F := Ideal) (k0_pay16 a b c) w = prod a b c w := rfl

/-- One block's product, index by index: the sum over the 48 table columns. -/
theorem prod_apply (a b c : Vec Ideal S1x128x128 .f32) (w : Vec Ideal S96x144 .bf16)
    (ha : Fin3 (s := S1x128x128) a) (hb : Fin3 (s := S1x128x128) b) (hc : Fin3 (s := S1x128x128) c) (d : Fin 96) (q : Fin 1024) :
    prod a b c w (ix2 d q) = ∑ k : Fin 48, (w (ix2 d ⟨k.val, by omega⟩) : EReal)
      * (![a, b, c] : Fin 3 → Vec Ideal S1x128x128 .f32) ⟨k.val / 16, by omega⟩
          (ix3 0 ⟨q.val % 128, by omega⟩ ⟨16 * (q.val / 128) + k.val % 16, by omega⟩) := by
  have hfin : ∀ i : S48x1024.Idx, (k0_pay5 (F := Ideal) a b c i : EReal) ≠ ⊤ ∧ (k0_pay5 (F := Ideal) a b c i : EReal) ≠ ⊥ := fun i => by
    obtain ⟨k, q, rfl⟩ : ∃ (k : Fin 48) (q : Fin 1024), i = ix2 k q := ⟨i 0, i 1, eq_ix2 i⟩
    rw [rows_apply]
    generalize (⟨k.val / 16, _⟩ : Fin 3) = n
    match n with
    | ⟨0, _⟩ => exact ha _
    | ⟨1, _⟩ => exact hb _
    | ⟨2, _⟩ => exact hc _
  have hsplit := Lanes.split_apply (K := 48) (N := 1024) (by omega) (k0_pay5 (F := Ideal) a b c) hfin bitsLt_bf16_f32
    concatenates_S48x1024_S48x1024_S48x1024_S144x1024_d0
  have hcast : k0_pay2 (F := Ideal) w = w := funext fun i => by
    unfold k0_pay2
    exact shapeCast_apply w _ i i rfl
  unfold prod
  rw [hcast]
  refine (Lanes.split_product (M := 96) (K := 48) (N := 1024) (by omega) w (k0_pay5 (F := Ideal) a b c) (k0_pay3 a b c) hsplit d q).trans ?_
  refine Finset.sum_congr rfl fun k _ => ?_
  rw [rows_apply]
  rfl

/-- A grid point's whole result: column `1024·k + 128·g + r` of row `d` is the weights' row `d` times the 48 table columns of
    lane group `g` of table row `128·k + r`. -/
def blockE (x0 : Vec Ideal S3x512x128 .f32) (x1 : Vec Ideal S96x144 .bf16) : Vec Ideal S96x4096 .f32 := fun i =>
  ∑ k : Fin 48, (x1 (ix2 ⟨(i 0).val, (i 0).isLt⟩ ⟨k.val, by omega⟩) : EReal)
    * x0 (ix3 ⟨k.val / 16, by omega⟩ ⟨128 * ((i 1).val / 1024) + (i 1).val % 128, by have h : (i 1).val < 4096 := (i 1).isLt; omega⟩
        ⟨16 * ((i 1).val % 1024 / 128) + k.val % 16, by omega⟩)

/-- One stored block is `blockE` on its columns: `m` says which of the four. -/
theorem piece_eq (x0 : Vec Ideal S3x512x128 .f32) (x1 : Vec Ideal S96x144 .bf16) (h0 : Fin3 (s := S3x512x128) x0)
    (m : ℕ) (hm : m < 4) (a b c : Vec Ideal S1x128x128 .f32) (w : Vec Ideal S96x144 .bf16) (hw : w = x1)
    (hi : ∀ (n : Fin 3) (r : Fin 128) (l : Fin 128), (![a, b, c] : Fin 3 → Vec Ideal S1x128x128 .f32) n (ix3 0 r l)
      = x0 (ix3 n ⟨128 * m + r.val, by omega⟩ l))
    (x : S96x1024.Idx) (y : S96x4096.Idx) (hy0 : (y 0).val = (x 0).val) (hy1 : (y 1).val = 1024 * m + (x 1).val) :
    prod a b c w x = blockE x0 x1 y := by
  subst hw
  obtain ⟨d, q, rfl⟩ : ∃ (d : Fin 96) (q : Fin 1024), x = ix2 d q := ⟨x 0, x 1, eq_ix2 x⟩
  have hq0 : (y 0).val = d.val := hy0
  have hq1 : (y 1).val = 1024 * m + q.val := hy1
  have hall : ∀ n, Fin3 (s := S1x128x128) ((![a, b, c] : Fin 3 → Vec Ideal S1x128x128 .f32) n) := fun n i => by
    obtain ⟨z, r, l, rfl⟩ : ∃ (z : Fin 1) (r l : Fin 128), i = ix3 z r l := ⟨i 0, i 1, i 2, eq_ix3 i⟩
    obtain rfl : z = 0 := Subsingleton.elim _ _
    rw [hi]; exact h0 _
  rw [prod_apply a b c w (hall 0) (hall 1) (hall 2)]
  unfold blockE
  refine Finset.sum_congr rfl fun k _ => ?_
  rw [hi]
  congr 2
  · congr 1
    exact Fin.ext hq0.symm
  · congr 1
    · exact Fin.ext (by show 128 * m + q.val % 128 = 128 * ((y 1).val / 1024) + (y 1).val % 128; omega)
    · exact Fin.ext (by show 16 * (q.val / 128) + k.val % 16 = 16 * ((y 1).val % 1024 / 128) + k.val % 16; omega)

/-- Block `m` of the four lies inside the window. -/
theorem store_inb (m : ℕ) (hm : m < 4) : ∀ a, (![0, 1024 * m] : Fin 2 → ℕ) a + S96x1024.size a ≤ S96x4096.size a := fun a => by
  match a with
  | ⟨0, _⟩ => exact Nat.le_refl 96
  | ⟨1, _⟩ => show 1024 * m + 1024 ≤ 4096; omega

/-- The tile loads and the store of block `m`, in `blockE`'s terms. -/
theorem piece_at (x0 : Vec Ideal S3x512x128 .f32) (x1 : Vec Ideal S96x144 .bf16) (h0 : Fin3 (s := S3x512x128) x0)
    (m : ℕ) (hm : m < 4)
    (i0 : ∀ a, (![0, 128 * m, 0] : Fin 3 → ℕ) a + S1x128x128.size a ≤ S3x512x128.size a)
    (i1 : ∀ a, (![1, 128 * m, 0] : Fin 3 → ℕ) a + S1x128x128.size a ≤ S3x512x128.size a)
    (i2 : ∀ a, (![2, 128 * m, 0] : Fin 3 → ℕ) a + S1x128x128.size a ≤ S3x512x128.size a)
    (x : S96x1024.Idx) :
    prod (View.ld x0 (Rect.unit (s := S3x512x128) ![0, 128 * m, 0] S1x128x128.size i0))
        (View.ld x0 (Rect.unit (s := S3x512x128) ![1, 128 * m, 0] S1x128x128.size i1))
        (View.ld x0 (Rect.unit (s := S3x512x128) ![2, 128 * m, 0] S1x128x128.size i2)) (View.ld x1 r0_3) x
      = blockE x0 x1 ((Rect.unit (s := S96x4096) ![0, 1024 * m] S96x1024.size (store_inb m hm)).emb x) := by
  have hw : View.ld x1 r0_3 = x1 :=
    View.ld_unit_zero (S := S96x144) (by funext a; match a with | ⟨0, _⟩ => rfl | ⟨1, _⟩ => rfl) _ x1
  have hld : ∀ (o : Fin 3 → ℕ) (inb) (n : Fin 3) (ho : o = ![n.val, 128 * m, 0]) (r l : Fin 128),
      View.ld x0 (Rect.unit (s := S3x512x128) o S1x128x128.size inb) (ix3 (0 : Fin 1) r l)
        = x0 (ix3 n ⟨128 * m + r.val, by omega⟩ l) :=
    fun o inb n ho r l => View.ld_unit_apply_of x0 o S1x128x128.size inb _ _ (fun a => by
      subst ho
      match a with
      | ⟨0, _⟩ => rfl
      | ⟨1, _⟩ => rfl
      | ⟨2, _⟩ => show l.val = 0 + l.val; omega)
  refine piece_eq x0 x1 h0 m hm _ _ _ _ hw (fun n r l => ?_) x _ ?_ ?_
  · match n with
    | ⟨0, _⟩ => exact hld _ _ 0 rfl r l
    | ⟨1, _⟩ => exact hld _ _ 1 rfl r l
    | ⟨2, _⟩ => exact hld _ _ 2 rfl r l
  · exact (Rect.idx_unit_val (s := S96x4096) _ _ (store_inb m hm) x 0).trans (Nat.zero_add _)
  · exact Rect.idx_unit_val (s := S96x4096) _ _ (store_inb m hm) x 1

/-- THE BLOCK: what the body leaves in the result window is `blockE` of what it read. -/
theorem out_eq (x0 : Vec Ideal S3x512x128 .f32) (x1 : Vec Ideal S96x144 .bf16) (h0 : Fin3 (s := S3x512x128) x0) :
    out0_2 (F := Ideal) x0 x1 = blockE x0 x1 := by
  funext y
  unfold out0_2
  refine View.canon_apply_of_pieces (blockE x0 x1) _ (fun p hp x => ?_) y (cover0_2 _ _ _ _ y)
  simp only [List.mem_cons, List.not_mem_nil, or_false] at hp
  rcases hp with rfl | rfl | rfl | rfl
  · exact (congrFun (prod_fourth _ _ _ _) x).trans (piece_at x0 x1 h0 3 (by omega) _ _ _ x)
  · exact (congrFun (prod_third _ _ _ _) x).trans (piece_at x0 x1 h0 2 (by omega) _ _ _ x)
  · exact (congrFun (prod_second _ _ _ _) x).trans (piece_at x0 x1 h0 1 (by omega) _ _ _ x)
  · exact piece_at x0 x1 h0 0 (by omega) _ _ _ x

end Cert.Proof.DhBlock
-- ==== Proof.DhArray.lean ====
/-
  WHAT THE ARRAY OF `dh_tail` HOLDS after the run, over the extended reals: `wholeE` of the two argument arrays, when every
  entry of the tables is finite. Column `n = 4096·t + 1024·k + 128·g + r` of row `d` is the sum over the 48 table columns of
  the weight (zero in the padding column 47) times lane `16·g + j` of row `512·t + 128·k + r` of the flat table `a`.
-/
module

public import proofs.«01_k».proof.Proof.DhBlock
public import proofs.«01_k».proof.Proof.Gen.DhTailIdeal.Value
public import Idealize.ShloMosaic.Lib.Pipeline.ValueKit
public import Idealize.ShloMosaic.Lib.Claim
public import Idealize.ShloMosaic.Lib.Pointwise

@[expose] public section

set_option maxRecDepth 16384

noncomputable section

namespace Cert.Proof.DhArray

open Idealize.ShloMosaic hiding ix1 ix2 ix3 ix4 ix5 eq_ix1 eq_ix2 eq_ix3 eq_ix4 eq_ix5
open Idealize.ShloMosaic.ValueIdx Idealize.ShloMosaic.TcCoe
open Idealize.ShloMosaic.Pipeline (Dat)
open Cert.DhTailIdeal Cert.DhTailIdeal.Gen Cert.Proof.DhBlock
open Cert.Proof.Lanes (Fin3)
open scoped BigOperators

variable (m : (ℓ : Loc nD τ sig) → Buf (Elt Ideal) ℓ)

/-- The result of the whole call, index by index. -/
def wholeE (t : FVec Ideal S9437184 .f32) (w : FVec Ideal S96x47 .bf16) : FVec Ideal S96x196608 .f32 := fun i =>
  ∑ k : Fin 48, (if h : k.val < 47 then (w (ix2 ⟨(i 0).val, (i 0).isLt⟩ ⟨k.val, h⟩) : EReal) else 0)
    * t (ix1 ⟨(k.val / 16) * 3145728 + (512 * ((i 1).val / 4096) + 128 * ((i 1).val % 4096 / 1024) + (i 1).val % 128) * 128
        + (16 * ((i 1).val % 1024 / 128) + k.val % 16), by have h : (i 1).val < 196608 := (i 1).isLt; omega⟩)

/-- The windows' index maps, at every grid point. -/
theorem idx : ∀ t : Fin cfg0.N, win0_0.index t = ![0, t.val, 0] ∧ win0_1.index t = ![0, 0] ∧ win0_2.index t = ![0, t.val] :=
  (by decide +kernel : ∀ t : Fin grid0.N, win0_0.index t = ![0, t.val, 0] ∧ win0_1.index t = ![0, 0] ∧ win0_2.index t = ![0, t.val])

/-- The tables as the region finds them: the flat table, reshaped. -/
theorem V_tables (c : Dev nD) (a : Fin 3) (r : Fin 24576) (l : Fin 128) :
    (V m c main_v2 : FVec Ideal S3x24576x128 .f32) (ix3 a r l)
      = (m ((c : Thread nD τ).loc main_arg0) : FVec Ideal S9437184 .f32) (ix1 ⟨a.val * 3145728 + r.val * 128 + l.val, by omega⟩) := by
  show StableHlo.after (List.flatten [hostOps0, hostOps0_1, hostOps0_2]) (fun b => m (c, b)) (Proc.tc.devRef main_v2) _ = _
  simp only [hostOps0, hostOps0_1, hostOps0_2, List.flatten_cons, List.flatten_nil, List.append_nil, List.cons_append, List.nil_append]
  after_results
  refine shapeCast_apply _ _ _ _ ?_
  show (S9437184.rowMajor (ix1 _)).val = (S3x24576x128.rowMajor (ix3 a r l)).val
  rw [Shape.rowMajor_val_one, Shape.rowMajor_val_three]
  show a.val * 3145728 + r.val * 128 + l.val = (a.val * 24576 + r.val) * 128 + l.val
  omega

/-- The padded weights. -/
theorem padded (c : Dev nD) :
    StableHlo.after (hostOps0 ++ hostOps0_1) (fun b => m (c, b)) (Proc.tc.devRef main_v0)
      = (pad S96x48 ![0, 0] ![0, 1] ![0, 0] (m ((c : Thread nD τ).loc main_arg1) : FVec Ideal S96x47 .bf16)
          (sitofp .bf16 (constantI S_ 32 0#32) : FVec Ideal S_ .bf16) pads_S96x47_S96x48_000_010 h_S_ : FVec Ideal S96x48 .bf16) := by
  simp only [hostOps0, hostOps0_1, List.cons_append, List.nil_append]
  after_results
  rfl

/-- The weights as the region finds them: the first of the three copies, padded with a zero column. -/
theorem V_weights (c : Dev nD) (d : Fin 96) (k : Fin 48) :
    (V m c main_v1 : FVec Ideal S96x144 .bf16) (ix2 d ⟨k.val, by omega⟩)
      = (if h : k.val < 47 then (show EReal from (m ((c : Thread nD τ).loc main_arg1) : FVec Ideal S96x47 .bf16) (ix2 d ⟨k.val, h⟩)) else 0) := by
  show StableHlo.after (List.flatten [hostOps0, hostOps0_1, hostOps0_2]) (fun b => m (c, b)) (Proc.tc.devRef main_v1) _ = _
  simp only [hostOps0, hostOps0_1, hostOps0_2, List.flatten_cons, List.flatten_nil, List.append_nil, List.cons_append, List.nil_append]
  after_results
  refine (Lanes.first_of_three (M := 96) (K := 48) _ _ _ _ d k).trans ?_
  change StableHlo.after (hostOps0 ++ hostOps0_1) (fun b => m (c, b)) (Proc.tc.devRef main_v0) (ix2 d k) = _
  rw [padded]
  refine (Lanes.pad_columns (M := 96) (K := 47) (e := 1) _ _ pads_S96x47_S96x48_000_010 h_S_ d k).trans ?_
  by_cases h : k.val < 47
  · rw [dif_pos h, dif_pos h]
  · rw [dif_neg h, dif_neg h]
    show (((0#32).toInt : ℝ) : EReal) = 0
    simp

/-- Window 0's block at point `t`. -/
theorem tables_block (c : Dev nD) (t : Fin cfg0.N) (a : Fin 3) (r : Fin 512) (l : Fin 128) :
    (iblk m c 0 t : FVec Ideal S3x512x128 .f32) (ix3 a r l)
      = (m ((c : Thread nD τ).loc main_arg0) : FVec Ideal S9437184 .f32)
          (ix1 ⟨a.val * 3145728 + (512 * t.val + r.val) * 128 + l.val, by have h : t.val < 48 := t.isLt; omega⟩) := by
  have h : t.val < 48 := t.isLt
  have e : ((cfg0.win 0).blk t).view.emb (ix3 a r l) = (ix3 a ⟨512 * t.val + r.val, by omega⟩ l : S3x24576x128.Idx) := by
    blk_ext [idx t]
    show t.val * 512 + r.val = _; omega
  show V m c main_v2 (((cfg0.win 0).blk t).view.emb (ix3 a r l)) = _
  rw [e]
  exact V_tables m c a _ l

/-- Window 1's block is its whole array. -/
theorem weights_block (c : Dev nD) (t : Fin cfg0.N) (d : Fin 96) (k : Fin 48) :
    (iblk m c 1 t : FVec Ideal S96x144 .bf16) (ix2 d ⟨k.val, by omega⟩)
      = (if h : k.val < 47 then (show EReal from (m ((c : Thread nD τ).loc main_arg1) : FVec Ideal S96x47 .bf16) (ix2 d ⟨k.val, h⟩)) else 0) := by
  have e : ((cfg0.win 1).blk t).view.emb (ix2 d ⟨k.val, by omega⟩) = (ix2 d ⟨k.val, by omega⟩ : S96x144.Idx) := by
    blk_ext [idx t]
  show V m c main_v1 (((cfg0.win 1).blk t).view.emb (ix2 d ⟨k.val, by omega⟩)) = _
  rw [e]
  exact V_weights m c d k

/-- THE ARRAY: after the run the result array is `wholeE` of the arguments, if every entry of the tables is finite. -/
theorem final (c : Dev nD) (hfin : Fin3 (s := S9437184) (m ((c : Thread nD τ).loc main_arg0))) :
    (dats m 0 c).arrAt 2 cfg0.N = wholeE (m ((c : Thread nD τ).loc main_arg0)) (m ((c : Thread nD τ).loc main_arg1)) := by
  refine (dats m 0 c).arrAt_eq_of_covers 2 _ (by decide +kernel) fun t _ y => ?_
  have ht : t.val < 48 := t.isLt
  have hblk : Fin3 (s := S3x512x128) (iblk m c 0 t) := fun i => by
    obtain ⟨a, r, l, rfl⟩ : ∃ (a : Fin 3) (r : Fin 512) (l : Fin 128), i = ix3 a r l := ⟨i 0, i 1, i 2, eq_ix3 i⟩
    rw [tables_block]
    exact hfin _
  obtain ⟨d, q, rfl⟩ : ∃ (d : Fin 96) (q : Fin 4096), y = ix2 d q := ⟨y 0, y 1, eq_ix2 y⟩
  have e : ((cfg0.win 2).blk t).view.emb (ix2 d q) = (ix2 d ⟨4096 * t.val + q.val, by omega⟩ : S96x196608.Idx) := by
    blk_ext [idx t]
    show t.val * 4096 + q.val = _; omega
  blk_simp
  rw [after0_2, out_eq _ _ hblk]
  show blockE (iblk m c 0 t) (iblk m c 1 t) (ix2 d q) = wholeE _ _ (((cfg0.win 2).blk t).view.emb (ix2 d q))
  rw [e]
  unfold blockE wholeE
  refine Finset.sum_congr rfl fun k _ => ?_
  refine congrArg₂ (· * ·) (weights_block m c t d k) ((tables_block m c t _ _ _).trans (congrArg _ (congrArg ix1 (Fin.ext ?_))))
  show k.val / 16 * 3145728 + (512 * t.val + (128 * (q.val / 1024) + q.val % 128)) * 128 + (16 * (q.val % 1024 / 128) + k.val % 16)
    = k.val / 16 * 3145728 + (512 * ((4096 * t.val + q.val) / 4096) + 128 * ((4096 * t.val + q.val) % 4096 / 1024)
        + (4096 * t.val + q.val) % 128) * 128 + (16 * ((4096 * t.val + q.val) % 1024 / 128) + k.val % 16)
  omega

end Cert.Proof.DhArray
-- ==== Proof.DhEquation.lean ====
/-
  THE EQUATION for `dh_tail`: the reference's product is `wholeE` of the same arguments, and the precondition is what the
  kernel's side needs.
-/
module

public import proofs.«01_k».proof.Defs
public import proofs.«01_k».proof.Proof.DhArray
public import proofs.«01_k».proof.Proof.Gen.DhReferenceIdeal.Read
public import proofs.«01_k».proof.Proof.Gen.Pre_dh_table_finite

@[expose] public section

set_option maxRecDepth 16384

noncomputable section

namespace Cert.Proof.DhEquation

open Idealize.ShloMosaic hiding ix1 ix2 ix3 ix4 ix5 eq_ix1 eq_ix2 eq_ix3 eq_ix4 eq_ix5
open Idealize.ShloMosaic.ValueIdx Idealize.ShloMosaic.TcCoe Idealize.SL.Sem
open Cert.Proof.DhBlock Cert.Proof.DhArray Cert.DhReferenceIdeal.Read
open Cert.Proof.Lanes (Fin3)
open scoped BigOperators

/-- What the reference multiplies, at node `n` and class `o`: the three tables laid out node by node. -/
theorem node_major (t : FVec Ideal Cert.DhTailIdeal.S9437184 .f32) (n : Fin 196608) (o : Fin 47) :
    val_main_v3 (F := Ideal) t (ix2 n o : Cert.DhReferenceIdeal.S196608x47.Idx)
      = t (ix1 ⟨(o.val / 16) * 3145728 + (512 * (n.val / 4096) + 128 * (n.val % 4096 / 1024) + n.val % 128) * 128
        + (16 * (n.val % 1024 / 128) + o.val % 16), by omega⟩) := by
  rw [val_main_v3_apply, val_main_v2_apply, val_main_v1_apply, val_main_v0_apply]
  have hd : (n.val * 48 + o.val) / 48 = n.val := by omega
  have e1 : (n.val * 48 + o.val) / 16 % 3 = o.val / 16 := by omega
  have e2 : (n.val * 48 + o.val) / 49152 = n.val / 1024 := by
    rw [show 49152 = 48 * 1024 from rfl, ← Nat.div_div_eq_div_mul, hd]
  have e3 : (n.val * 48 + o.val) / 6144 % 8 = n.val % 1024 / 128 := by
    rw [show 6144 = 48 * 128 from rfl, ← Nat.div_div_eq_div_mul, hd]; omega
  have e4 : (n.val * 48 + o.val) % 16 = o.val % 16 := by omega
  refine congrArg t (funext fun a => Fin.ext ?_)
  match a with
  | ⟨0, _⟩ =>
    show (((((n.val * 48 + o.val) / 16 % 3) * 192 + (n.val * 48 + o.val) / 49152) * 128 + (n.val * 48 + o.val) / 48 % 128) * 8
        + (n.val * 48 + o.val) / 6144 % 8) * 16 + (n.val * 48 + o.val) % 16
      = (o.val / 16) * 3145728 + (512 * (n.val / 4096) + 128 * (n.val % 4096 / 1024) + n.val % 128) * 128
        + (16 * (n.val % 1024 / 128) + o.val % 16)
    rw [e1, e2, e3, e4, hd]
    omega

/-- THE REFERENCE: its result is `wholeE` of its arguments. -/
theorem ref_eq (t : FVec Ideal Cert.DhTailIdeal.S9437184 .f32) (w : FVec Ideal Cert.DhTailIdeal.S96x47 .bf16) :
    val_main_v6 (F := Ideal) t w = wholeE t w := by
  funext i
  obtain ⟨d, n, rfl⟩ : ∃ (d : Fin 96) (n : Fin 196608), i = ix2 d n := ⟨i 0, i 1, eq_ix2 i⟩
  rw [val_main_v6_apply, val_main_v5_apply]
  unfold wholeE
  refine Eq.trans ?_ (Lanes.drop_last (n := 47) _ ?_).symm
  · refine Finset.sum_congr rfl fun k _ => ?_
    refine (mul_comm _ _).trans (congrArg₂ (· * ·) ?_ ?_)
    rotate_left
    · refine Eq.trans (congrArg (val_main_v3 (F := Ideal) t) (funext fun a => ?_)) (node_major t n k)
      match a with
      | ⟨0, _⟩ => rfl
      | ⟨1, _⟩ => rfl
    have e : ridx_main_v5 (idx_main_v6 (ix2 d n)) k = (ix2 d k : Cert.DhReferenceIdeal.S96x47.Idx) := funext fun a => by
      match a with
      | ⟨0, _⟩ => rfl
      | ⟨1, _⟩ => rfl
    refine (congrArg (val_main_v4 (F := Ideal) w) e).trans ((val_main_v4_apply (F := Ideal) w _).trans ?_)
    exact (dif_pos (c := (Fin.castSucc k).val < 47) (t := fun h => (w (ix2 d ⟨k.val, h⟩) : EReal)) (e := fun _ => 0) k.isLt).symm
  · exact (congrArg (· * _) (dif_neg (c := (Fin.last 47).val < 47) (Nat.lt_irrefl 47))).trans (zero_mul _)

/-- The precondition says that every entry of the table is finite. -/
theorem finite_of_pre (t : FVec Ideal Cert.DhTailIdeal.S9437184 .f32) (w : FVec Ideal Cert.DhTailIdeal.S96x47 .bf16)
    (h : Cert.Pre_dh_table_finite.fn (F := Ideal) t w = fun _ => 1#1) : Fin3 (s := Cert.DhTailIdeal.S9437184) t := fun i => by
  exact Lanes.finite_of_bit (congrFun h i)

end Cert.Proof.DhEquation
-- ==== Proof.DhClaims.lean ====
/-
  THE CLAIMS of `dh_tail` that are not the generated frame: the reference's frame and the equality of the results.
-/
module

public import proofs.«01_k».proof.Proof.DhEquation
public import proofs.«01_k».proof.Proof.Gen.DhTailIdeal.Value
public import proofs.«01_k».proof.Proof.Gen.DhReferenceIdeal.Run

@[expose] public section

set_option maxRecDepth 16384

noncomputable section

namespace Cert.Proof.DhClaims

open Idealize.ShloMosaic Idealize.ShloMosaic.TcCoe Idealize.SL.Sem

/-- The reference declares no semaphore, so its counters read zero. -/
theorem no_counters (s : Idealize.ShloMosaic.GSem Cert.DhReferenceIdeal.nD Cert.DhReferenceIdeal.τ Cert.DhReferenceIdeal.sig → ℤ) : s = fun _ => 0 := by
  funext g
  match g with
  | (_, .reg s) => exact Fin.elim0 s
  | (_, .dma s) => exact Fin.elim0 s

/-- The reference's frame. -/
theorem reference_frame : Cert.quiescent_DhReferenceIdeal := fun m g _ =>
  (θ_run _ _ _).mono (fun r h => ⟨fun c => (h c).2, no_counters _⟩) (Cert.DhReferenceIdeal.Value.run (F := Ideal) m g)

/-- The two programs' results are equal. -/
theorem algebraic : Cert.algebraic_DhTailIdeal_DhReferenceIdeal_pre_dh_table_finite := fun m g m' g' hpre heq =>
  ⟨fun c => DhArray.wholeE (m ((c.tc : Thread Cert.DhTailIdeal.nD Cert.DhTailIdeal.τ).loc Cert.DhTailIdeal.main_arg0)) (m ((c.tc : Thread Cert.DhTailIdeal.nD Cert.DhTailIdeal.τ).loc Cert.DhTailIdeal.main_arg1)),
    (θ_run _ _ _).mono (fun r h c => ⟨(h c).1.trans (DhArray.final m c (DhEquation.finite_of_pre _ _ (hpre c))), (h c).2⟩)
      (Cert.DhTailIdeal.Value.run_blocks (F := Ideal) m g),
    (θ_run _ _ _).mono (fun r h c => ⟨(h c).1.trans ((Cert.DhReferenceIdeal.Read.val_main_v6_eq _ _).trans
        ((DhEquation.ref_eq _ _).trans (congrArg₂ DhArray.wholeE (heq c).1 (heq c).2))), (h c).2⟩)
      (Cert.DhReferenceIdeal.Value.run (F := Ideal) m' g')⟩

end Cert.Proof.DhClaims

end
-- ==== Proof.AggBlock.lean ====
/-
  WHAT ONE BLOCK OF `agg_tail` COMPUTES, over the extended reals. A grid point reads a block `x0` of the aggregated table
  (512 rows of 128 lanes), the signs `x1` and a block `x2` of the transposed `dy`; it stores four blocks of 1024 columns of the
  activations and adds their products with `dy` to the weight gradient. `aggE x0 x1` is the point's activations index by
  index, `gradE x0 x1 x2` the amount it adds to the weight gradient.
-/
module

public import Idealize.ShloMosaic.Lib.Pipeline.ValueKit
public import Idealize.ShloMosaic.Lib.Pipeline.ValueKit.Tiles
public import proofs.«01_k».proof.Proof.Lanes
public import proofs.«01_k».proof.Proof.Gen.AggTailIdeal.Frame

@[expose] public section

set_option maxRecDepth 16384

noncomputable section

namespace Cert.Proof.AggBlock

open Idealize.ShloMosaic hiding ix1 ix2 ix3 ix4 ix5 eq_ix1 eq_ix2 eq_ix3 eq_ix4 eq_ix5
open Idealize.ShloMosaic.ValueIdx Idealize.ShloMosaic.TcCoe
open Cert.AggTailIdeal Cert.AggTailIdeal.Gen
open Cert.Proof.Lanes (Fin3)
open scoped BigOperators

/-- The tile as sixteen rows: row `j`, column `128·g + r` is lane `16·g + j` of row `r`. -/
theorem wide_apply (v : Vec Ideal S128x128 .f32) (j : Fin 16) (q : Fin 1024) :
    k0_pay17 (F := Ideal) v (ix2 j q) = v (ix2 ⟨q.val % 128, by omega⟩ ⟨16 * (q.val / 128) + j.val, by omega⟩) := by
  unfold k0_pay17
  refine (Lanes.eight_apply (transpose S128x128 [1, 0] (shapeCast S128x128 v shapeCasts_S128x128_S128x128) transposes_S128x128_p1_0_S128x128)
    _ _ _ _ _ _ _ _ _ j q).trans ?_
  rw [transpose_apply _ _ _ _ (ix2 ⟨q.val % 128, by omega⟩ ⟨16 * (q.val / 128) + j.val, by omega⟩)
    (fun b => match b with | ⟨0, _⟩ => rfl | ⟨1, _⟩ => rfl)]
  exact shapeCast_apply v _ _ _ rfl

/-- The activations of one 1024-column block, as the first block's text spells them. -/
def comp (v : Vec Ideal S128x128 .f32) (r : Vec Ideal S96x48 .bf16) : FVec Ideal S96x1024 .bf16 := k0_pay4 v r

/-- The other three blocks' texts are the same. -/
theorem comp_second (v : Vec Ideal S128x128 .f32) (r : Vec Ideal S96x48 .bf16) : k0_pay6 (F := Ideal) v r = comp v r := rfl
theorem comp_third (v : Vec Ideal S128x128 .f32) (r : Vec Ideal S96x48 .bf16) :
    k0_pay15 (F := Ideal) (k0_pay8 v) (k0_pay9 v) (k0_pay10 v) (k0_pay11 v) (k0_pay12 v) (k0_pay13 v) (k0_pay14 v) r = comp v r := rfl
theorem comp_fourth (v : Vec Ideal S128x128 .f32) (r : Vec Ideal S96x48 .bf16) :
    k0_pay1 (F := Ideal) (k0_pay17 v) (k0_pay18 r) (k0_pay19 v) (k0_pay20 v) = comp v r := rfl

/-- One block's activations, index by index: the signs' row times the sixteen table columns, times the constant. -/
theorem comp_apply (v : Vec Ideal S128x128 .f32) (r : Vec Ideal S96x48 .bf16) (hv : Fin3 (s := S128x128) v) (d : Fin 96) (q : Fin 1024) :
    comp v r (ix2 d q) = (∑ k : Fin 16, (r (ix2 d ⟨k.val, by omega⟩) : EReal)
      * v (ix2 ⟨q.val % 128, by omega⟩ ⟨16 * (q.val / 128) + k.val, by omega⟩)) * Ideal.ofBits .f32 0x3E93CD3A#32 := by
  have hfin : Fin3 (s := S16x1024) (k0_pay17 (F := Ideal) v) := fun i => by
    obtain ⟨k, q, rfl⟩ : ∃ (k : Fin 16) (q : Fin 1024), i = ix2 k q := ⟨i 0, i 1, eq_ix2 i⟩
    rw [wide_apply]; exact hv _
  have hsplit := Lanes.split_apply (K := 16) (N := 1024) (by omega) (k0_pay17 (F := Ideal) v) hfin bitsLt_bf16_f32
    concatenates_S16x1024_S16x1024_S16x1024_S48x1024_d0
  have hcast : k0_pay18 (F := Ideal) r = r := funext fun i => by
    unfold k0_pay18
    exact shapeCast_apply r _ i i rfl
  have hprod := Lanes.split_product (M := 96) (K := 16) (N := 1024) (by omega) r (k0_pay17 (F := Ideal) v) _ hsplit d q
  rw [← comp_fourth, hcast]
  refine (congrArg (· * (Ideal.ofBits .f32 0x3E93CD3A#32 : EReal)) hprod).trans ?_
  refine congrArg (· * (Ideal.ofBits .f32 0x3E93CD3A#32 : EReal)) (Finset.sum_congr rfl fun k _ => ?_)
  rw [wide_apply]
  rfl

/-- One block's step of the weight gradient, as the first block's text spells it. -/
def step (v : Vec Ideal S128x128 .f32) (r : Vec Ideal S96x48 .bf16) (a : Vec Ideal S47x96 .f32) (y : Vec Ideal S47x1024 .bf16) :
    FVec Ideal S47x96 .f32 := k0_pay5 v r a y

/-- The other three blocks' texts are the same step. -/
theorem step_second (v : Vec Ideal S128x128 .f32) (r : Vec Ideal S96x48 .bf16) (a : Vec Ideal S47x96 .f32) (y : Vec Ideal S47x1024 .bf16) :
    k0_pay7 (F := Ideal) v r a y = step v r a y := rfl
theorem step_third (v : Vec Ideal S128x128 .f32) (r : Vec Ideal S96x48 .bf16) (a : Vec Ideal S47x96 .f32) (y : Vec Ideal S47x1024 .bf16) :
    k0_pay16 (F := Ideal) (k0_pay8 v) (k0_pay9 v) (k0_pay10 v) (k0_pay11 v) (k0_pay12 v) (k0_pay13 v) (k0_pay14 v) r a y = step v r a y := rfl
theorem step_fourth (v : Vec Ideal S128x128 .f32) (r : Vec Ideal S96x48 .bf16) (a : Vec Ideal S47x96 .f32) (y : Vec Ideal S47x1024 .bf16) :
    k0_pay2 (F := Ideal) (k0_pay17 v) (k0_pay18 r) (k0_pay19 v) (k0_pay20 v) a y = step v r a y := rfl

/-- A step adds the products of the block's columns. -/
theorem step_apply (v : Vec Ideal S128x128 .f32) (r : Vec Ideal S96x48 .bf16) (a : Vec Ideal S47x96 .f32) (y : Vec Ideal S47x1024 .bf16)
    (o : Fin 47) (d : Fin 96) :
    step v r a y (ix2 o d) = (a (ix2 o d) : EReal) + ∑ q : Fin 1024, (y (ix2 o q) : EReal) * comp v r (ix2 d q) := by
  have hy : shapeCast S47x1024 y shapeCasts_S47x1024_S47x1024 = y := funext fun i => shapeCast_apply y _ i i rfl
  have ha : shapeCast S47x96 a shapeCasts_S47x96_S47x96 = a := funext fun i => shapeCast_apply a _ i i rfl
  have hm := Ideal.matmul_transposedRhs_apply (φ₁ := .bf16) none y (comp v r) (constant S47x96 .f32 0x00000000#32) o d
  rw [show (constant S47x96 .f32 0x00000000#32 : FVec Ideal S47x96 .f32) (ix2 o d) = (0 : EReal) from Ideal.ofBits_zero_f32, zero_add] at hm
  show (shapeCast S47x96 a shapeCasts_S47x96_S47x96 (ix2 o d) : EReal)
    + matmul dot_S47x1024_S96x1024_S47x96_1_1_0_0_n_n none (shapeCast S47x1024 y shapeCasts_S47x1024_S47x1024) (comp v r)
        (constant S47x96 .f32 0x00000000#32) (ix2 o d) = _
  rw [hy, ha]
  exact congrArg ((a (ix2 o d) : EReal) + ·) hm

/-! ## The four blocks together -/

/-- A grid point's activations: column `1024·k + 128·g + r` of row `d` is the signs' row `d` times the sixteen table columns of
    lane group `g` of table row `128·k + r`, times the constant. -/
def aggE (x0 : Vec Ideal S512x128 .f32) (x1 : Vec Ideal S96x48 .bf16) : Vec Ideal S96x4096 .bf16 := fun i =>
  (∑ k : Fin 16, (x1 (ix2 ⟨(i 0).val, (i 0).isLt⟩ ⟨k.val, by omega⟩) : EReal)
    * x0 (ix2 ⟨128 * ((i 1).val / 1024) + (i 1).val % 128, by have h : (i 1).val < 4096 := (i 1).isLt; omega⟩
        ⟨16 * ((i 1).val % 1024 / 128) + k.val, by omega⟩)) * Ideal.ofBits .f32 0x3E93CD3A#32

/-- What a grid point adds to the weight gradient: the product over its 4096 columns. -/
def gradE (x0 : Vec Ideal S512x128 .f32) (x1 : Vec Ideal S96x48 .bf16) (x2 : Vec Ideal S47x4096 .bf16) : Vec Ideal S47x96 .f32 := fun i =>
  ∑ q : Fin 4096, (x2 (ix2 ⟨(i 0).val, (i 0).isLt⟩ q) : EReal) * aggE x0 x1 (ix2 ⟨(i 1).val, (i 1).isLt⟩ q)

/-- The 128 table rows of block `m`. -/
def slab (x0 : Vec Ideal S512x128 .f32) (m : Fin 4) : Vec Ideal S128x128 .f32 := fun i =>
  x0 (ix2 ⟨128 * m.val + (i 0).val, by have h : (i 0).val < 128 := (i 0).isLt; omega⟩ ⟨(i 1).val, (i 1).isLt⟩)

/-- The 1024 columns of block `m`. -/
def cols (x2 : Vec Ideal S47x4096 .bf16) (m : Fin 4) : Vec Ideal S47x1024 .bf16 := fun i =>
  x2 (ix2 ⟨(i 0).val, (i 0).isLt⟩ ⟨1024 * m.val + (i 1).val, by have h : (i 1).val < 1024 := (i 1).isLt; omega⟩)

/-- A tile load of the table is its block. -/
theorem ld_slab (x0 : Vec Ideal S512x128 .f32) (m : Fin 4) (off : Fin 2 → ℕ) (ho : off = ![128 * m.val, 0]) (inb) :
    View.ld x0 (Rect.unit (s := S512x128) off S128x128.size inb) = slab x0 m := funext fun i => by
  subst ho
  exact View.ld_unit_apply_of x0 _ S128x128.size inb i _ (fun a => match a with
    | ⟨0, _⟩ => rfl
    | ⟨1, _⟩ => (Nat.zero_add _).symm)

/-- A tile load of `dy` is its columns. -/
theorem ld_cols (x2 : Vec Ideal S47x4096 .bf16) (m : Fin 4) (off : Fin 2 → ℕ) (ho : off = ![0, 1024 * m.val]) (inb) :
    View.ld x2 (Rect.unit (s := S47x4096) off S47x1024.size inb) = cols x2 m := funext fun i => by
  subst ho
  exact View.ld_unit_apply_of x2 _ S47x1024.size inb i _ (fun a => match a with
    | ⟨0, _⟩ => (Nat.zero_add _).symm
    | ⟨1, _⟩ => rfl)

/-- The body's four loads of the table. -/
theorem slabs (x0 : Vec Ideal S512x128 .f32) :
    View.ld x0 (Rect.unit (s := S512x128) ![0, 0] ![128, 128] inb_S512x128_S128x128_0_0) = slab x0 0
    ∧ View.ld x0 (Rect.unit (s := S512x128) ![128, 0] ![128, 128] inb_S512x128_S128x128_128_0) = slab x0 1
    ∧ View.ld x0 (Rect.unit (s := S512x128) ![256, 0] ![128, 128] inb_S512x128_S128x128_256_0) = slab x0 2
    ∧ View.ld x0 (Rect.unit (s := S512x128) ![384, 0] ![128, 128] inb_S512x128_S128x128_384_0) = slab x0 3 :=
  ⟨ld_slab x0 0 _ rfl _, ld_slab x0 1 _ rfl _, ld_slab x0 2 _ rfl _, ld_slab x0 3 _ rfl _⟩

/-- The body's four loads of `dy`. -/
theorem columns (x2 : Vec Ideal S47x4096 .bf16) :
    View.ld x2 (Rect.unit (s := S47x4096) ![0, 0] ![47, 1024] inb_S47x4096_S47x1024_0_0) = cols x2 0
    ∧ View.ld x2 (Rect.unit (s := S47x4096) ![0, 1024] ![47, 1024] inb_S47x4096_S47x1024_0_1024) = cols x2 1
    ∧ View.ld x2 (Rect.unit (s := S47x4096) ![0, 2048] ![47, 1024] inb_S47x4096_S47x1024_0_2048) = cols x2 2
    ∧ View.ld x2 (Rect.unit (s := S47x4096) ![0, 3072] ![47, 1024] inb_S47x4096_S47x1024_0_3072) = cols x2 3 :=
  ⟨ld_cols x2 0 _ rfl _, ld_cols x2 1 _ rfl _, ld_cols x2 2 _ rfl _, ld_cols x2 3 _ rfl _⟩

/-- Block `m`'s activations are `aggE` on its columns. -/
theorem comp_slab (x0 : Vec Ideal S512x128 .f32) (x1 : Vec Ideal S96x48 .bf16) (h0 : Fin3 (s := S512x128) x0) (m : Fin 4)
    (d : Fin 96) (q : Fin 1024) : comp (slab x0 m) x1 (ix2 d q) = aggE x0 x1 (ix2 d ⟨1024 * m.val + q.val, by omega⟩) := by
  rw [comp_apply (slab x0 m) x1 (fun i => h0 _)]
  unfold aggE slab
  refine congrArg (· * (Ideal.ofBits .f32 0x3E93CD3A#32 : EReal)) (Finset.sum_congr rfl fun k _ => ?_)
  refine congrArg (_ * x0 ·) (congrArg₂ ix2 (Fin.ext ?_) (Fin.ext ?_))
  · show 128 * m.val + q.val % 128 = 128 * ((1024 * m.val + q.val) / 1024) + (1024 * m.val + q.val) % 128
    omega
  · show 16 * (q.val / 128) + k.val = 16 * ((1024 * m.val + q.val) % 1024 / 128) + k.val
    omega

/-- One store of the activations, in `aggE`'s terms. -/
theorem store_at (x0 : Vec Ideal S512x128 .f32) (x1 : Vec Ideal S96x48 .bf16) (h0 : Fin3 (s := S512x128) x0) (m : Fin 4)
    (off : Fin 2 → ℕ) (ho : off = ![0, 1024 * m.val]) (inb) (x : S96x1024.Idx) :
    comp (slab x0 m) x1 x = aggE x0 x1 ((Rect.unit (s := S96x4096) off S96x1024.size inb).emb x) := by
  subst ho
  obtain ⟨d, q, rfl⟩ : ∃ (d : Fin 96) (q : Fin 1024), x = ix2 d q := ⟨x 0, x 1, eq_ix2 x⟩
  rw [comp_slab x0 x1 h0]
  refine congrArg (aggE x0 x1) (funext fun a => Fin.ext ?_)
  rw [show ((Rect.unit (s := S96x4096) ![0, 1024 * m.val] S96x1024.size inb).emb (ix2 d q) a).val = _
    from Rect.idx_unit_val (s := S96x4096) _ _ inb (ix2 d q) a]
  match a with
  | ⟨0, _⟩ => exact (Nat.zero_add _).symm
  | ⟨1, _⟩ => rfl

/-- The four stores of the activations leave `aggE`. -/
theorem stores_eq (x0 : Vec Ideal S512x128 .f32) (x1 : Vec Ideal S96x48 .bf16) (h0 : Fin3 (s := S512x128) x0) :
    View.canon (Val := Elt Ideal) (s := S96x4096) (e := .bf16)
      [⟨Rect.unit (s := S96x4096) ![0, 3072] S96x1024.size inb_S96x4096_S96x1024_0_3072, comp (slab x0 3) x1⟩,
       ⟨Rect.unit (s := S96x4096) ![0, 2048] S96x1024.size inb_S96x4096_S96x1024_0_2048, comp (slab x0 2) x1⟩,
       ⟨Rect.unit (s := S96x4096) ![0, 1024] S96x1024.size inb_S96x4096_S96x1024_0_1024, comp (slab x0 1) x1⟩,
       ⟨Rect.unit (s := S96x4096) ![0, 0] S96x1024.size inb_S96x4096_S96x1024_0_0, comp (slab x0 0) x1⟩] = aggE x0 x1 := by
  funext y
  refine View.canon_apply_of_pieces (aggE x0 x1) _ (fun p hp x => ?_) y ?_
  swap
  · exact View.cover_of_tiledL (s := S96x4096) _ S96x1024.size (by sl_kernel_rfl) y
  simp only [List.mem_cons, List.not_mem_nil, or_false] at hp
  rcases hp with rfl | rfl | rfl | rfl
  · exact store_at x0 x1 h0 3 _ rfl inb_S96x4096_S96x1024_0_3072 x
  · exact store_at x0 x1 h0 2 _ rfl inb_S96x4096_S96x1024_0_2048 x
  · exact store_at x0 x1 h0 1 _ rfl inb_S96x4096_S96x1024_0_1024 x
  · exact store_at x0 x1 h0 0 _ rfl inb_S96x4096_S96x1024_0_0 x

/-- The four steps of the weight gradient, one after another, add `gradE`. -/
theorem steps_apply (x0 : Vec Ideal S512x128 .f32) (x1 : Vec Ideal S96x48 .bf16) (x2 : Vec Ideal S47x4096 .bf16)
    (h0 : Fin3 (s := S512x128) x0) (a : Vec Ideal S47x96 .f32) (i : S47x96.Idx) :
    step (slab x0 3) x1 (step (slab x0 2) x1 (step (slab x0 1) x1 (step (slab x0 0) x1 a (cols x2 0)) (cols x2 1)) (cols x2 2)) (cols x2 3) i
      = (a i : EReal) + gradE x0 x1 x2 i := by
  obtain ⟨o, d, rfl⟩ : ∃ (o : Fin 47) (d : Fin 96), i = ix2 o d := ⟨i 0, i 1, eq_ix2 i⟩
  have hs : ∑ s : Fin 4, ∑ q : Fin 1024, (cols x2 s (ix2 o q) : EReal) * comp (slab x0 s) x1 (ix2 d q) = gradE x0 x1 x2 (ix2 o d) := by
    refine Fin.sum_mul_add_congr (f := fun q : Fin 4096 => (x2 (ix2 o q) : EReal) * aggE x0 x1 (ix2 d q)) fun s q hl => ?_
    rw [comp_slab x0 x1 h0]
    have e : (⟨1024 * s.val + q.val, by omega⟩ : Fin 4096) = ⟨s.val * 1024 + q.val, hl⟩ := Fin.ext (by show 1024 * s.val + q.val = s.val * 1024 + q.val; omega)
    rw [e]
    refine congrArg (· * _) ?_
    exact congrArg (fun q => x2 (ix2 o q)) e
  rw [step_apply, step_apply, step_apply, step_apply, ← hs, Fin.sum_univ_four]
  simp only [add_assoc]

end Cert.Proof.AggBlock

end
-- ==== Proof.AggArray.lean ====
/-
  WHAT THE ARRAYS OF `agg_tail` HOLD after the run, over the extended reals, when every entry of the aggregated table is
  finite: the transposed activations are `actE` of the table and the signs, and the transposed weight gradient is `sumE`, the
  product of the transposed `dy` with them over all nodes.
-/
module

public import proofs.«01_k».proof.Proof.AggBlock
public import proofs.«01_k».proof.Proof.Gen.AggTailIdeal.Value
public import Idealize.ShloMosaic.Lib.Claim
public import Idealize.ShloMosaic.Lib.Pointwise

@[expose] public section

set_option maxRecDepth 16384

noncomputable section

namespace Cert.Proof.AggArray

open Idealize.ShloMosaic hiding ix1 ix2 ix3 ix4 ix5 eq_ix1 eq_ix2 eq_ix3 eq_ix4 eq_ix5
open Idealize.ShloMosaic.ValueIdx Idealize.ShloMosaic.TcCoe
open Idealize.ShloMosaic.Pipeline (Dat)
open Cert.AggTailIdeal Cert.AggTailIdeal.Gen Cert.Proof.AggBlock
open Cert.Proof.Lanes (Fin3)
open scoped BigOperators

variable (m : (ℓ : Loc nD τ sig) → Buf (Elt Ideal) ℓ)

/-- A sign as an extended real. -/
def sign (r : IVec S96x12 8) (d : Fin 96) (k : Fin 12) : EReal := (((r (ix2 d k)).toInt : ℝ) : EReal)

/-- The transposed activations, index by index: node `n = 4096·t + 1024·k + 128·g + r` of feature `d` is the sum over the table's
    sixteen columns of the sign (zero in the padding columns 12 to 15) times lane `16·g + j` of row `512·t + 128·k + r` of the
    table, times the constant. -/
def actE (x : FVec Ideal S3145728 .f32) (r : IVec S96x12 8) : FVec Ideal S96x196608 .bf16 := fun i =>
  (∑ k : Fin 16, (if h : k.val < 12 then sign r ⟨(i 0).val, (i 0).isLt⟩ ⟨k.val, h⟩ else 0)
    * (x (ix1 ⟨(512 * ((i 1).val / 4096) + 128 * ((i 1).val % 4096 / 1024) + (i 1).val % 128) * 128
        + (16 * ((i 1).val % 1024 / 128) + k.val), by have h : (i 1).val < 196608 := (i 1).isLt; omega⟩) : EReal))
    * Ideal.ofBits .f32 0x3E93CD3A#32

/-- The transposed weight gradient: the sum over all nodes. -/
def sumE (x : FVec Ideal S3145728 .f32) (r : IVec S96x12 8) (y : FVec Ideal S196608x47 .bf16) : FVec Ideal S47x96 .f32 := fun i =>
  ∑ n : Fin 196608, (y (ix2 n ⟨(i 0).val, (i 0).isLt⟩) : EReal) * actE x r (ix2 ⟨(i 1).val, (i 1).isLt⟩ n)

/-- The windows' index maps, at every grid point. -/
theorem idx : ∀ t : Fin cfg0.N, win0_0.index t = ![t.val, 0] ∧ win0_1.index t = ![0, 0] ∧ win0_2.index t = ![0, t.val]
    ∧ win0_3.index t = ![0, t.val] ∧ win0_4.index t = ![0, 0] :=
  (by decide +kernel : ∀ t : Fin grid0.N, win0_0.index t = ![t.val, 0] ∧ win0_1.index t = ![0, 0] ∧ win0_2.index t = ![0, t.val]
    ∧ win0_3.index t = ![0, t.val] ∧ win0_4.index t = ![0, 0])

/-- The table as the region finds it: the flat table, reshaped. -/
theorem V_table (c : Dev nD) (r : Fin 24576) (l : Fin 128) :
    (V m c main_v5 : FVec Ideal S24576x128 .f32) (ix2 r l)
      = (m ((c : Thread nD τ).loc main_arg0) : FVec Ideal S3145728 .f32) (ix1 ⟨r.val * 128 + l.val, by omega⟩) := by
  show StableHlo.after (List.flatten [hostOps0, hostOps0_1, hostOps0_2]) (fun b => m (c, b)) (Proc.tc.devRef main_v5) _ = _
  simp only [hostOps0, hostOps0_1, hostOps0_2, List.flatten_cons, List.flatten_nil, List.append_nil, List.cons_append, List.nil_append]
  after_results
  refine shapeCast_apply _ _ _ _ ?_
  show (S3145728.rowMajor (ix1 _)).val = (S24576x128.rowMajor (ix2 r l)).val
  rw [Shape.rowMajor_val_one, Shape.rowMajor_val_two]
  rfl

/-- `dy` as the region finds it: transposed. -/
theorem V_dy (c : Dev nD) (o : Fin 47) (n : Fin 196608) :
    (V m c main_v0 : FVec Ideal S47x196608 .bf16) (ix2 o n)
      = (m ((c : Thread nD τ).loc main_arg2) : FVec Ideal S196608x47 .bf16) (ix2 n o) := by
  show StableHlo.after (List.flatten [hostOps0, hostOps0_1, hostOps0_2]) (fun b => m (c, b)) (Proc.tc.devRef main_v0) _ = _
  simp only [hostOps0, hostOps0_1, hostOps0_2, List.flatten_cons, List.flatten_nil, List.append_nil, List.cons_append, List.nil_append]
  after_results
  exact transpose_apply _ _ _ _ _ (fun b => match b with | ⟨0, _⟩ => rfl | ⟨1, _⟩ => rfl)

/-- The padded signs. -/
theorem padded (c : Dev nD) :
    StableHlo.after (hostOps0 ++ hostOps0_1) (fun b => m (c, b)) (Proc.tc.devRef main_v1)
      = (pad S96x16 ![0, 0] ![0, 4] ![0, 0] (m ((c : Thread nD τ).loc main_arg1) : IVec S96x12 8)
          (trunci 8 (constantI S_ 32 0#32) natLt_8_32 : IVec S_ 8) pads_S96x12_S96x16_000_040 h_S_ : IVec S96x16 8) := by
  simp only [hostOps0, hostOps0_1, List.cons_append, List.nil_append]
  after_results
  rfl

/-- The padded signs as floats. -/
theorem floats (c : Dev nD) :
    StableHlo.after (hostOps0 ++ hostOps0_1 ++ [hostOps0_2[0], hostOps0_2[1]]) (fun b => m (c, b)) (Proc.tc.devRef main_v3)
      = (sitofp .bf16 (extsi 32 (pad S96x16 ![0, 0] ![0, 4] ![0, 0] (m ((c : Thread nD τ).loc main_arg1) : IVec S96x12 8)
          (trunci 8 (constantI S_ 32 0#32) natLt_8_32 : IVec S_ 8) pads_S96x12_S96x16_000_040 h_S_ : IVec S96x16 8) natLt_8_32)
          : FVec Ideal S96x16 .bf16) := by
  simp only [hostOps0, hostOps0_1, hostOps0_2, List.cons_append, List.nil_append, List.getElem_cons_zero, List.getElem_cons_succ]
  after_results
  rfl

/-- The signs as the region finds them: the first of the three copies, padded with four zero columns. -/
theorem V_signs (c : Dev nD) (d : Fin 96) (k : Fin 16) :
    (V m c main_v4 : FVec Ideal S96x48 .bf16) (ix2 d ⟨k.val, by omega⟩)
      = (if h : k.val < 12 then sign (m ((c : Thread nD τ).loc main_arg1)) d ⟨k.val, h⟩ else 0) := by
  show StableHlo.after (List.flatten [hostOps0, hostOps0_1, hostOps0_2]) (fun b => m (c, b)) (Proc.tc.devRef main_v4) _ = _
  simp only [hostOps0, hostOps0_1, hostOps0_2, List.flatten_cons, List.flatten_nil, List.append_nil, List.cons_append, List.nil_append]
  after_results
  refine (Lanes.first_of_three (M := 96) (K := 16) _ _ _ _ d k).trans ?_
  change StableHlo.after (hostOps0 ++ hostOps0_1 ++ [hostOps0_2[0], hostOps0_2[1]]) (fun b => m (c, b)) (Proc.tc.devRef main_v3) (ix2 d k) = _
  rw [floats]
  have hp := Lanes.pad_columns (M := 96) (K := 12) (e := 4) (m ((c : Thread nD τ).loc main_arg1) : IVec S96x12 8)
    (trunci 8 (constantI S_ 32 0#32) natLt_8_32 : IVec S_ 8) pads_S96x12_S96x16_000_040 h_S_ d k
  refine (congrArg (fun b : BitVec 8 => (((b.signExtend 32).toInt : ℝ) : EReal)) hp).trans ?_
  show (((BitVec.signExtend 32 _).toInt : ℝ) : EReal) = _
  rw [BitVec.toInt_signExtend_of_le (by omega)]
  by_cases h : k.val < 12
  · rw [dif_pos h, dif_pos h]
    rfl
  · rw [dif_neg h, dif_neg h]
    show (((BitVec.setWidth 8 (0#32)).toInt : ℝ) : EReal) = 0
    simp

/-- Window 0's block at point `t`. -/
theorem table_block (c : Dev nD) (t : Fin cfg0.N) (r : Fin 512) (l : Fin 128) :
    (iblk m c 0 t : FVec Ideal S512x128 .f32) (ix2 r l)
      = (m ((c : Thread nD τ).loc main_arg0) : FVec Ideal S3145728 .f32)
          (ix1 ⟨(512 * t.val + r.val) * 128 + l.val, by have h : t.val < 48 := t.isLt; omega⟩) := by
  have h : t.val < 48 := t.isLt
  have e : ((cfg0.win 0).blk t).view.emb (ix2 r l) = (ix2 ⟨512 * t.val + r.val, by omega⟩ l : S24576x128.Idx) := by
    blk_ext [idx t]
    show t.val * 512 + r.val = _; omega
  show V m c main_v5 (((cfg0.win 0).blk t).view.emb (ix2 r l)) = _
  rw [e]
  exact V_table m c _ l

/-- Window 1's block is its whole array. -/
theorem signs_block (c : Dev nD) (t : Fin cfg0.N) (d : Fin 96) (k : Fin 16) :
    (iblk m c 1 t : FVec Ideal S96x48 .bf16) (ix2 d ⟨k.val, by omega⟩)
      = (if h : k.val < 12 then sign (m ((c : Thread nD τ).loc main_arg1)) d ⟨k.val, h⟩ else 0) := by
  have e : ((cfg0.win 1).blk t).view.emb (ix2 d ⟨k.val, by omega⟩) = (ix2 d ⟨k.val, by omega⟩ : S96x48.Idx) := by
    blk_ext [idx t]
  show V m c main_v4 (((cfg0.win 1).blk t).view.emb (ix2 d ⟨k.val, by omega⟩)) = _
  rw [e]
  exact V_signs m c d k

/-- Window 2's block at point `t`: 4096 nodes of the transposed `dy`. -/
theorem dy_block (c : Dev nD) (t : Fin cfg0.N) (o : Fin 47) (q : Fin 4096) :
    (iblk m c 2 t : FVec Ideal S47x4096 .bf16) (ix2 o q)
      = (m ((c : Thread nD τ).loc main_arg2) : FVec Ideal S196608x47 .bf16)
          (ix2 ⟨4096 * t.val + q.val, by have h : t.val < 48 := t.isLt; omega⟩ o) := by
  have h : t.val < 48 := t.isLt
  have e : ((cfg0.win 2).blk t).view.emb (ix2 o q) = (ix2 o ⟨4096 * t.val + q.val, by omega⟩ : S47x196608.Idx) := by
    blk_ext [idx t]
    show t.val * 4096 + q.val = _; omega
  show V m c main_v0 (((cfg0.win 2).blk t).view.emb (ix2 o q)) = _
  rw [e]
  exact V_dy m c o _

/-- The activations of a point's block are `actE` on its nodes. -/
theorem aggE_eq (c : Dev nD) (t : Fin cfg0.N) (d : Fin 96) (q : Fin 4096) :
    aggE (iblk m c 0 t) (iblk m c 1 t) (ix2 d q)
      = actE (m ((c : Thread nD τ).loc main_arg0)) (m ((c : Thread nD τ).loc main_arg1))
          (ix2 d ⟨4096 * t.val + q.val, by have h : t.val < 48 := t.isLt; omega⟩) := by
  have ht : t.val < 48 := t.isLt
  unfold aggE actE
  refine congrArg (· * (Ideal.ofBits .f32 0x3E93CD3A#32 : EReal)) (Finset.sum_congr rfl fun k _ => ?_)
  refine congrArg₂ (· * ·) (signs_block m c t d k) ((table_block m c t _ _).trans (congrArg _ (congrArg ix1 (Fin.ext ?_))))
  show (512 * t.val + (128 * (q.val / 1024) + q.val % 128)) * 128 + (16 * (q.val % 1024 / 128) + k.val)
    = (512 * ((4096 * t.val + q.val) / 4096) + 128 * ((4096 * t.val + q.val) % 4096 / 1024)
        + (4096 * t.val + q.val) % 128) * 128 + (16 * ((4096 * t.val + q.val) % 1024 / 128) + k.val)
  omega

/-- A point's block of the table is finite if the table is. -/
theorem block_finite (c : Dev nD) (hfin : Fin3 (s := S3145728) (m ((c : Thread nD τ).loc main_arg0))) (t : Fin cfg0.N) :
    Fin3 (s := S512x128) (iblk m c 0 t) := fun i => by
  obtain ⟨r, l, rfl⟩ : ∃ (r : Fin 512) (l : Fin 128), i = ix2 r l := ⟨i 0, i 1, eq_ix2 i⟩
  rw [table_block]
  exact hfin _

/-- What a point's body leaves in the activations' window, in either case. -/
theorem left_act (c : Dev nD) (hfin : Fin3 (s := S3145728) (m ((c : Thread nD τ).loc main_arg0))) (t : Fin cfg0.N) :
    (outsAt0 m c t.val t.isLt).1 = aggE (iblk m c 0 t) (iblk m c 1 t) := by
  obtain ⟨s0, s1, s2, s3⟩ := slabs (iblk m c 0 t)
  by_cases h : t.val % 48 = 0
  · rw [outsAt0_A m c t h]; frame_out
    rw [s0, s1, s2, s3]
    exact stores_eq _ _ (block_finite m c hfin t)
  · rw [outsAt0_B m c t h]; frame_out
    rw [s0, s1, s2, s3]
    exact stores_eq _ _ (block_finite m c hfin t)

/-- THE ACTIVATIONS: after the run the first result array is `actE` of the arguments. -/
theorem final_act (c : Dev nD) (hfin : Fin3 (s := S3145728) (m ((c : Thread nD τ).loc main_arg0))) :
    (dats m 0 c).arrAt 3 cfg0.N = actE (m ((c : Thread nD τ).loc main_arg0)) (m ((c : Thread nD τ).loc main_arg1)) := by
  refine (dats m 0 c).arrAt_eq_of_covers 3 _ (by decide +kernel) fun t _ y => ?_
  have ht : t.val < 48 := t.isLt
  obtain ⟨d, q, rfl⟩ : ∃ (d : Fin 96) (q : Fin 4096), y = ix2 d q := ⟨y 0, y 1, eq_ix2 y⟩
  have e : ((cfg0.win 3).blk t).view.emb (ix2 d q) = (ix2 d ⟨4096 * t.val + q.val, by omega⟩ : S96x196608.Idx) := by
    blk_ext [idx t]
    show t.val * 4096 + q.val = _; omega
  blk_simp
  rw [after0_3, left_act m c hfin t]
  show aggE (iblk m c 0 t) (iblk m c 1 t) (ix2 d q) = actE _ _ (((cfg0.win 3).blk t).view.emb (ix2 d q))
  rw [e]
  exact aggE_eq m c t d q

/-- The first point starts the weight gradient from zero. -/
theorem left_first (c : Dev nD) (hfin : Fin3 (s := S3145728) (m ((c : Thread nD τ).loc main_arg0))) (t : Fin cfg0.N)
    (h : t.val % 48 = 0) (i : S47x96.Idx) :
    ((outsAt0 m c t.val t.isLt).2 i : EReal) = (0 : EReal) + gradE (iblk m c 0 t) (iblk m c 1 t) (iblk m c 2 t) i := by
  rw [outsAt0_A m c t h]; frame_out
  obtain ⟨s0, s1, s2, s3⟩ := slabs (iblk m c 0 t)
  obtain ⟨c0, c1, c2, c3⟩ := columns (iblk m c 2 t)
  rw [s0, s1, s2, s3, c0, c1, c2, c3]
  refine (steps_apply _ _ _ (block_finite m c hfin t) (k0_pay3 (F := Ideal)) i).trans ?_
  exact congrArg (· + gradE (iblk m c 0 t) (iblk m c 1 t) (iblk m c 2 t) i) (Ideal.ofBits_zero_f32 : (k0_pay3 (F := Ideal) i : EReal) = 0)

/-- Every later point adds to what the point before left. -/
theorem left_next (c : Dev nD) (hfin : Fin3 (s := S3145728) (m ((c : Thread nD τ).loc main_arg0))) (t : Fin cfg0.N)
    (h : ¬t.val % 48 = 0) (i : S47x96.Idx) :
    ((outsAt0 m c t.val t.isLt).2 i : EReal)
      = (outsAt0 m c (t.val - 1) (Nat.lt_of_le_of_lt (Nat.sub_le _ _) t.isLt)).2 i
        + gradE (iblk m c 0 t) (iblk m c 1 t) (iblk m c 2 t) i := by
  rw [outsAt0_B m c t h]; frame_out
  obtain ⟨s0, s1, s2, s3⟩ := slabs (iblk m c 0 t)
  obtain ⟨c0, c1, c2, c3⟩ := columns (iblk m c 2 t)
  rw [s0, s1, s2, s3, c0, c1, c2, c3]
  exact steps_apply _ _ _ (block_finite m c hfin t) _ i

/-- THE WEIGHT GRADIENT: after the run the second result array is `sumE` of the arguments. -/
theorem final_sum (c : Dev nD) (hfin : Fin3 (s := S3145728) (m ((c : Thread nD τ).loc main_arg0))) :
    (dats m 0 c).arrAt 4 cfg0.N = sumE (m ((c : Thread nD τ).loc main_arg0)) (m ((c : Thread nD τ).loc main_arg1))
      (m ((c : Thread nD τ).loc main_arg2)) := by
  refine (dats m 0 c).arrAt_eq_of_covers 4 _ (by decide +kernel) fun t hf y => ?_
  obtain ⟨o, d, rfl⟩ : ∃ (o : Fin 47) (d : Fin 96), y = ix2 o d := ⟨y 0, y 1, eq_ix2 y⟩
  have e : ((cfg0.win 4).blk t).view.emb (ix2 o d) = (ix2 o d : S47x96.Idx) := by
    blk_ext [idx t]
  blk_simp
  rw [after0_4, Pipeline.eq_sum_fin_of_reset_step_apply_of_flush (fun n h => (outsAt0 m c n h).2) 48 (fun _ => (0 : EReal))
    (fun t => gradE (iblk m c 0 t) (iblk m c 1 t) (iblk m c 2 t)) (left_first m c hfin) (left_next m c hfin) t ((flush0_4 t).mp hf) (ix2 o d),
    zero_add]
  show _ = sumE _ _ _ (((cfg0.win 4).blk t).view.emb (ix2 o d))
  rw [e]
  refine Fin.sum_mul_add_congr (f := fun n : Fin 196608 => (_ : EReal)) fun s q hl => ?_
  have ht : t.val < 48 := t.isLt
  have es : (⟨48 * (t.val / 48) + s.val, Pipeline.run_point_lt_of_flush t ((flush0_4 t).mp hf) s⟩ : Fin cfg0.N)
      = ⟨s.val, lt_of_lt_of_eq s.isLt (show (48 : ℕ) = cfg0.N from N_0.symm)⟩ := Fin.ext (by show 48 * (t.val / 48) + s.val = s.val; omega)
  have eq : ∀ h, (⟨4096 * s.val + q.val, h⟩ : Fin 196608) = ⟨s.val * 4096 + q.val, hl⟩ := fun _ =>
    Fin.ext (by show 4096 * s.val + q.val = s.val * 4096 + q.val; omega)
  rw [es]
  refine congrArg₂ (fun a b : EReal => a * b) ((dy_block m c _ _ q).trans ?_) ((aggE_eq m c _ _ q).trans ?_)
  · exact congrArg (fun n => (m ((c : Thread nD τ).loc main_arg2) : FVec Ideal S196608x47 .bf16) (ix2 n o)) (eq _)
  · exact congrArg (fun n => actE (m ((c : Thread nD τ).loc main_arg0)) (m ((c : Thread nD τ).loc main_arg1)) (ix2 d n)) (eq _)

end Cert.Proof.AggArray

end
-- ==== Proof.AggEquation.lean ====
/-
  THE EQUATION for `agg_tail`: the reference's two results are `actE` and `sumE` of the same arguments, and the precondition
  is what the kernel's side needs.
-/
module

public import proofs.«01_k».proof.Defs
public import proofs.«01_k».proof.Proof.AggArray
public import proofs.«01_k».proof.Proof.Gen.AggReferenceIdeal.Read
public import proofs.«01_k».proof.Proof.Gen.Pre_agg_table_finite

@[expose] public section

set_option maxRecDepth 16384

noncomputable section

namespace Cert.Proof.AggEquation

open Idealize.ShloMosaic hiding ix1 ix2 ix3 ix4 ix5 eq_ix1 eq_ix2 eq_ix3 eq_ix4 eq_ix5
open Idealize.ShloMosaic.ValueIdx Idealize.ShloMosaic.TcCoe Idealize.SL.Sem
open Cert.Proof.AggBlock Cert.Proof.AggArray Cert.AggReferenceIdeal.Read
open Cert.Proof.Lanes (Fin3)
open scoped BigOperators

/-- What the reference multiplies, at node `n` and column `k`: the table laid out
    node by node, the first twelve columns. -/
theorem node_major (x : FVec Ideal Cert.AggTailIdeal.S3145728 .f32) (n : Fin 196608) (k : Fin 12) :
    val_main_v3 (F := Ideal) x (ix2 n k : Cert.AggReferenceIdeal.S196608x12.Idx)
      = x (ix1 ⟨(512 * (n.val / 4096) + 128 * (n.val % 4096 / 1024) + n.val % 128) * 128 + (16 * (n.val % 1024 / 128) + k.val), by omega⟩) := by
  rw [val_main_v3_apply, val_main_v2_apply, val_main_v1_apply, val_main_v0_apply]
  have hd : (n.val * 16 + k.val) / 16 = n.val := by omega
  have e2 : (n.val * 16 + k.val) / 16384 = n.val / 1024 := by
    rw [show 16384 = 16 * 1024 from rfl, ← Nat.div_div_eq_div_mul, hd]
  have e3 : (n.val * 16 + k.val) / 2048 % 8 = n.val % 1024 / 128 := by
    rw [show 2048 = 16 * 128 from rfl, ← Nat.div_div_eq_div_mul, hd]; omega
  have e4 : (n.val * 16 + k.val) % 16 = k.val := by omega
  refine congrArg x (funext fun a => Fin.ext ?_)
  match a with
  | ⟨0, _⟩ =>
    show ((((n.val * 16 + k.val) / 16384) * 128 + (n.val * 16 + k.val) / 16 % 128) * 8 + (n.val * 16 + k.val) / 2048 % 8) * 16
        + (n.val * 16 + k.val) % 16
      = (512 * (n.val / 4096) + 128 * (n.val % 4096 / 1024) + n.val % 128) * 128 + (16 * (n.val % 1024 / 128) + k.val)
    rw [e2, e3, e4, hd]
    omega

/-- The reference's signs. -/
theorem signs_eq (r : IVec Cert.AggTailIdeal.S96x12 8) (d : Fin 96) (k : Fin 12) :
    (val_main_v5 (F := Ideal) r (ix2 d k : Cert.AggReferenceIdeal.S96x12.Idx) : EReal) = sign r d k := by
  show (((BitVec.signExtend 32 (r (ix2 d k))).toInt : ℝ) : EReal) = (((r (ix2 d k)).toInt : ℝ) : EReal)
  rw [BitVec.toInt_signExtend_of_le (by omega)]

/-- The reference's activations, at node `n` and feature `d`. -/
theorem act_at (x : FVec Ideal Cert.AggTailIdeal.S3145728 .f32) (r : IVec Cert.AggTailIdeal.S96x12 8) (n : Fin 196608) (d : Fin 96) :
    (val_main_v9 (F := Ideal) x r (ix2 n d : Cert.AggReferenceIdeal.S196608x96.Idx) : EReal) = actE x r (ix2 d n) := by
  show (val_main_v6 (F := Ideal) x r (ix2 n d) : EReal) * Ideal.ofBits .f32 0x3E93CD3A#32 = _
  rw [val_main_v6_apply]
  unfold actE
  refine congrArg (· * (Ideal.ofBits .f32 0x3E93CD3A#32 : EReal)) ?_
  refine Eq.trans ?_ (Fin.sum_univ_add (a := 12) (b := 4) _).symm
  refine Eq.trans ?_ (congrArg₂ (fun a b : EReal => a + b) rfl (Finset.sum_eq_zero fun k _ => ?_)).symm
  · rw [add_zero]
    refine Finset.sum_congr rfl fun k _ => ?_
    refine (mul_comm _ _).trans (congrArg₂ (fun a b : EReal => a * b) ?_ ?_)
    · have e : ridx_main_v6 (ix2 n d) k = (ix2 d k : Cert.AggReferenceIdeal.S96x12.Idx) := funext fun a => by
        match a with
        | ⟨0, _⟩ => rfl
        | ⟨1, _⟩ => rfl
      refine (congrArg (val_main_v5 (F := Ideal) r) e).trans ((signs_eq r d k).trans ?_)
      exact (dif_pos (c := (Fin.castAdd 4 k).val < 12) (t := fun h => sign r d ⟨k.val, h⟩) (e := fun _ => 0) k.isLt).symm
    · refine Eq.trans (congrArg (val_main_v3 (F := Ideal) x) (funext fun a => ?_)) (node_major x n k)
      match a with
      | ⟨0, _⟩ => rfl
      | ⟨1, _⟩ => rfl
  · exact (congrArg (· * _) (dif_neg (c := (Fin.natAdd 12 k).val < 12) (by show ¬(12 + k.val < 12); omega))).trans (zero_mul _)

/-- THE REFERENCE, first result: the transposed activations. -/
theorem ref_act (x : FVec Ideal Cert.AggTailIdeal.S3145728 .f32) (r : IVec Cert.AggTailIdeal.S96x12 8) :
    val_main_v11 (F := Ideal) x r = actE x r := by
  funext i
  obtain ⟨d, n, rfl⟩ : ∃ (d : Fin 96) (n : Fin 196608), i = ix2 d n := ⟨i 0, i 1, eq_ix2 i⟩
  rw [val_main_v11_apply]
  refine (congrArg (val_main_v9 (F := Ideal) x r) (funext fun a => ?_)).trans (act_at x r n d)
  match a with
  | ⟨0, _⟩ => rfl
  | ⟨1, _⟩ => rfl

/-- THE REFERENCE, second result: the transposed weight gradient. -/
theorem ref_sum (x : FVec Ideal Cert.AggTailIdeal.S3145728 .f32) (r : IVec Cert.AggTailIdeal.S96x12 8)
    (y : FVec Ideal Cert.AggTailIdeal.S196608x47 .bf16) : val_main_v12 (F := Ideal) x r y = sumE x r y := by
  funext i
  obtain ⟨o, d, rfl⟩ : ∃ (o : Fin 47) (d : Fin 96), i = ix2 o d := ⟨i 0, i 1, eq_ix2 i⟩
  rw [val_main_v12_apply, val_main_v10_apply]
  unfold sumE
  refine Finset.sum_congr rfl fun n _ => (mul_comm _ _).trans (congrArg₂ (fun a b : EReal => a * b) ?_ ?_)
  · refine congrArg y (funext fun a => ?_)
    match a with
    | ⟨0, _⟩ => rfl
    | ⟨1, _⟩ => rfl
  · refine (congrArg (val_main_v9 (F := Ideal) x r) (funext fun a => ?_)).trans (act_at x r n d)
    match a with
    | ⟨0, _⟩ => rfl
    | ⟨1, _⟩ => rfl

/-- The precondition says that every entry of the table is finite. -/
theorem finite_of_pre (x : FVec Ideal Cert.AggTailIdeal.S3145728 .f32) (r : IVec Cert.AggTailIdeal.S96x12 8)
    (y : FVec Ideal Cert.AggTailIdeal.S196608x47 .bf16) (h : Cert.Pre_agg_table_finite.fn (F := Ideal) x r y = fun _ => 1#1) :
    Fin3 (s := Cert.AggTailIdeal.S3145728) x := fun i => by
  exact Lanes.finite_of_bit (congrFun h i)

end Cert.Proof.AggEquation

end
-- ==== Proof.AggClaims.lean ====
/-
  THE CLAIMS of `agg_tail` that are not the generated frame: the reference's frame and the equality of the results.
-/
module

public import proofs.«01_k».proof.Proof.AggEquation
public import proofs.«01_k».proof.Proof.Gen.AggTailIdeal.Value
public import proofs.«01_k».proof.Proof.Gen.AggReferenceIdeal.Run

@[expose] public section

set_option maxRecDepth 16384

noncomputable section

namespace Cert.Proof.AggClaims

open Idealize.ShloMosaic Idealize.ShloMosaic.TcCoe Idealize.SL.Sem

/-- The reference declares no semaphore, so its counters read zero. -/
theorem no_counters (s : Idealize.ShloMosaic.GSem Cert.AggReferenceIdeal.nD Cert.AggReferenceIdeal.τ Cert.AggReferenceIdeal.sig → ℤ) : s = fun _ => 0 := by
  funext g
  match g with
  | (_, .reg s) => exact Fin.elim0 s
  | (_, .dma s) => exact Fin.elim0 s

/-- The reference's frame. -/
theorem reference_frame : Cert.quiescent_AggReferenceIdeal := fun m g _ =>
  (θ_run _ _ _).mono (fun r h => ⟨fun c => (h c).2.2, no_counters _⟩) (Cert.AggReferenceIdeal.Value.run (F := Ideal) m g)

/-- The two programs' results are equal. -/
theorem algebraic : Cert.algebraic_AggTailIdeal_AggReferenceIdeal_pre_agg_table_finite := fun m g m' g' hpre heq => by
  have hfin := fun c => AggEquation.finite_of_pre _ _ _ (hpre c)
  refine ⟨fun c => AggArray.actE (m ((c.tc : Thread Cert.AggTailIdeal.nD Cert.AggTailIdeal.τ).loc Cert.AggTailIdeal.main_arg0))
      (m ((c.tc : Thread Cert.AggTailIdeal.nD Cert.AggTailIdeal.τ).loc Cert.AggTailIdeal.main_arg1)),
    fun c => AggArray.sumE (m ((c.tc : Thread Cert.AggTailIdeal.nD Cert.AggTailIdeal.τ).loc Cert.AggTailIdeal.main_arg0))
      (m ((c.tc : Thread Cert.AggTailIdeal.nD Cert.AggTailIdeal.τ).loc Cert.AggTailIdeal.main_arg1))
      (m ((c.tc : Thread Cert.AggTailIdeal.nD Cert.AggTailIdeal.τ).loc Cert.AggTailIdeal.main_arg2)), ?_, ?_⟩
  · exact (θ_run _ _ _).mono (fun r h c => ⟨(h c).1.trans (AggArray.final_act m c (hfin c)),
      (h c).2.1.trans (AggArray.final_sum m c (hfin c)), (h c).2.2⟩) (Cert.AggTailIdeal.Value.run_blocks (F := Ideal) m g)
  · refine (θ_run _ _ _).mono (fun r h c => ?_) (Cert.AggReferenceIdeal.Value.run (F := Ideal) m' g')
    obtain ⟨h0, h1, h2⟩ := heq c
    refine ⟨(h c).1.trans ((Cert.AggReferenceIdeal.Read.val_main_v11_eq _ _).trans ((AggEquation.ref_act _ _).trans ?_)),
      (h c).2.1.trans ((Cert.AggReferenceIdeal.Read.val_main_v12_eq _ _ _).trans ((AggEquation.ref_sum _ _ _).trans ?_)), (h c).2.2⟩
    · rw [h0, h1]
    · rw [h0, h1, h2]

end Cert.Proof.AggClaims

end
-- ==== Proof.lean ====
module

public import proofs.«01_k».proof.Defs
public import proofs.«01_k».proof.Proof.PrepClaims
public import proofs.«01_k».proof.Proof.DhClaims
public import proofs.«01_k».proof.Proof.AggClaims
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepReference
public import proofs.«01_k».proof.Proof.Gen.DhTail
public import proofs.«01_k».proof.Proof.Gen.DhTail.Skeleton
public import proofs.«01_k».proof.Proof.Gen.DhTail.Launch
public import proofs.«01_k».proof.Proof.Gen.DhTail.Points
public import proofs.«01_k».proof.Proof.Gen.DhTail.Frame
public import proofs.«01_k».proof.Proof.Gen.DhTailIdeal
public import proofs.«01_k».proof.Proof.Gen.DhTailIdeal.Skeleton
public import proofs.«01_k».proof.Proof.Gen.DhTailIdeal.Launch
public import proofs.«01_k».proof.Proof.Gen.DhTailIdeal.Points
public import proofs.«01_k».proof.Proof.Gen.DhTailIdeal.Frame
public import proofs.«01_k».proof.Proof.Gen.DhReferenceIdeal
public import proofs.«01_k».proof.Proof.Gen.AggTail
public import proofs.«01_k».proof.Proof.Gen.AggTail.Skeleton
public import proofs.«01_k».proof.Proof.Gen.AggTail.Launch
public import proofs.«01_k».proof.Proof.Gen.AggTail.Points
public import proofs.«01_k».proof.Proof.Gen.AggTail.Frame
public import proofs.«01_k».proof.Proof.Gen.AggTailIdeal
public import proofs.«01_k».proof.Proof.Gen.AggTailIdeal.Skeleton
public import proofs.«01_k».proof.Proof.Gen.AggTailIdeal.Launch
public import proofs.«01_k».proof.Proof.Gen.AggTailIdeal.Points
public import proofs.«01_k».proof.Proof.Gen.AggTailIdeal.Frame
public import proofs.«01_k».proof.Proof.Gen.AggReferenceIdeal
public import proofs.«01_k».proof.Proof.Gen.Pre_dh_table_finite
public import proofs.«01_k».proof.Proof.Gen.Pre_agg_table_finite
public import proofs.«01_k».proof.Proof.Gen.Prep.Value
public import proofs.«01_k».proof.Proof.Gen.PrepReference.Run
public import proofs.«01_k».proof.Proof.Gen.PrepReference.Read
public import proofs.«01_k».proof.Proof.Gen.DhTailIdeal.Value
public import proofs.«01_k».proof.Proof.Gen.AggTailIdeal.Value
public import proofs.«01_k».proof.Proof.Gen.DhReferenceIdeal.Run
public import proofs.«01_k».proof.Proof.Gen.AggReferenceIdeal.Run
public import proofs.«01_k».proof.Proof.Gen.DhReferenceIdeal.Read
public import proofs.«01_k».proof.Proof.Gen.AggReferenceIdeal.Read
public import Idealize.ShloMosaic.Adequacy
public import Idealize.ShloMosaic.Init

@[expose] public section

noncomputable section

namespace Cert.Proof

open Idealize.ShloMosaic Idealize.SL.Sem Cert.DhTail

theorem claim : Cert.Claim := ⟨Cert.Prep.Gen.facts, Cert.PrepReference.Gen.facts, Cert.DhTail.Gen.facts, Cert.DhTailIdeal.Gen.facts, Cert.DhReferenceIdeal.Gen.facts, Cert.AggTail.Gen.facts, Cert.AggTailIdeal.Gen.facts, Cert.AggReferenceIdeal.Gen.facts, Cert.Pre_dh_table_finite.Gen.facts, Cert.Pre_agg_table_finite.Gen.facts,
  fun m g _ => Cert.Prep.Gen.frame m g, PrepClaims.reference_frame,
  fun m g _ => Cert.DhTail.Gen.frame m g, fun m g _ => Cert.DhTailIdeal.Gen.frame m g, fun m g _ => Cert.DhTailIdeal.Gen.frame m g,
  DhClaims.reference_frame, fun m g _ => DhClaims.reference_frame m g trivial,
  fun m g _ => Cert.AggTail.Gen.frame m g, fun m g _ => Cert.AggTailIdeal.Gen.frame m g, fun m g _ => Cert.AggTailIdeal.Gen.frame m g,
  AggClaims.reference_frame, fun m g _ => AggClaims.reference_frame m g trivial,
  PrepClaims.bitexact, trivial, DhClaims.algebraic, trivial, AggClaims.algebraic⟩

end Cert.Proof

end
